-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_in_range [hPre_in_range : Cert.Pre_in_range.Facts] (m : (ℓ : Loc Cert.KernelIdeal.nD Cert.KernelIdeal.τ Cert.KernelIdeal.sig) → Buf (Elt Ideal) ℓ) : Prop :=
  ∀ c : Dev Cert.KernelIdeal.nD,
    (Cert.Pre_in_range.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5))).1 = (fun _ => 1#1)
    ∧ (Cert.Pre_in_range.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5))).2.1 = (fun _ => 1#1)
    ∧ (Cert.Pre_in_range.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5))).2.2.1 = (fun _ => 1#1)
    ∧ (Cert.Pre_in_range.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5))).2.2.2.1 = (fun _ => 1#1)
    ∧ (Cert.Pre_in_range.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5))).2.2.2.2.1 = (fun _ => 1#1)
    ∧ (Cert.Pre_in_range.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5))).2.2.2.2.2 = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_in_range [hPre_in_range : Cert.Pre_in_range.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_in_range.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5))).1 = (fun _ => 1#1)
    ∧ (Cert.Pre_in_range.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5))).2.1 = (fun _ => 1#1)
    ∧ (Cert.Pre_in_range.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5))).2.2.1 = (fun _ => 1#1)
    ∧ (Cert.Pre_in_range.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5))).2.2.2.1 = (fun _ => 1#1)
    ∧ (Cert.Pre_in_range.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5))).2.2.2.2.1 = (fun _ => 1#1)
    ∧ (Cert.Pre_in_range.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5))).2.2.2.2.2 = (fun _ => 1#1)

def Pre_Words (m : (ℓ : Loc Cert.Words.nD Cert.Words.τ Cert.Words.sig) → Buf (Elt Bits) ℓ) : Prop :=
  True

def Pre_WordsReference (m : (ℓ : Loc Cert.WordsReference.nD Cert.WordsReference.τ Cert.WordsReference.sig) → Buf (Elt Bits) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))
      ∧ r.2.sem = fun _ => 0)

def quiescent_KernelIdeal_pre_in_range [hKernelIdeal : Cert.KernelIdeal.Facts] [hPre_in_range : Cert.Pre_in_range.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_in_range m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5))
      ∧ r.2.sem = fun _ => 0)

def quiescent_ReferenceIdeal_pre_in_range [hReferenceIdeal : Cert.ReferenceIdeal.Facts] [hPre_in_range : Cert.Pre_in_range.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_in_range m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5))
      ∧ r.2.sem = fun _ => 0)

def quiescent_Words [hWords : Cert.Words.Facts] : Prop :=
  ∀ (m : (ℓ : Loc Cert.Words.nD Cert.Words.τ Cert.Words.sig) → Buf (Elt Bits) ℓ) (g : Dev Cert.Words.nD → PrngReg), Pre_Words m →
    θ_run (Cert.Words.defs (F := Bits)) (onTc (τ := Cert.Words.τ) (Cert.Words.main (F := Bits))) ⟨m, fun _ => 0, g⟩ (fun r => (∀ c : Dev Cert.Words.nD,
      r.2.mem ((c.tc : Thread Cert.Words.nD Cert.Words.τ).loc Cert.Words.main_arg0) = m ((c.tc : Thread Cert.Words.nD Cert.Words.τ).loc Cert.Words.main_arg0))
      ∧ r.2.sem = fun _ => 0)

def quiescent_WordsReference [hWordsReference : Cert.WordsReference.Facts] : Prop :=
  ∀ (m : (ℓ : Loc Cert.WordsReference.nD Cert.WordsReference.τ Cert.WordsReference.sig) → Buf (Elt Bits) ℓ) (g : Dev Cert.WordsReference.nD → PrngReg), Pre_WordsReference m →
    θ_run (Cert.WordsReference.defs (F := Bits)) (onTc (τ := Cert.WordsReference.τ) (Cert.WordsReference.main (F := Bits))) ⟨m, fun _ => 0, g⟩ (fun r => (∀ c : Dev Cert.WordsReference.nD,
      r.2.mem ((c.tc : Thread Cert.WordsReference.nD Cert.WordsReference.τ).loc Cert.WordsReference.main_arg0) = m ((c.tc : Thread Cert.WordsReference.nD Cert.WordsReference.τ).loc Cert.WordsReference.main_arg0))
      ∧ r.2.sem = fun _ => 0)

def preserves_Kernel_KernelIdeal : Prop :=
  True

def algebraic_KernelIdeal_ReferenceIdeal_pre_in_range [hKernelIdeal : Cert.KernelIdeal.Facts] [hReferenceIdeal : Cert.ReferenceIdeal.Facts] [hPre_in_range : Cert.Pre_in_range.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_in_range m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)) →
    ∃ (v0 : (c : Dev Cert.KernelIdeal.nD) → Buf (Elt Ideal) ((c.tc : Thread Cert.KernelIdeal.nD Cert.KernelIdeal.τ).loc Cert.KernelIdeal.main_v7_0)) (v1 : (c : Dev Cert.KernelIdeal.nD) → Buf (Elt Ideal) ((c.tc : Thread Cert.KernelIdeal.nD Cert.KernelIdeal.τ).loc Cert.KernelIdeal.main_v7_1)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v7_0) = v0 c
          ∧ r.2.mem ((c.tc : Thread Cert.KernelIdeal.nD Cert.KernelIdeal.τ).loc Cert.KernelIdeal.main_v7_1) = v1 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v40_0) = v0 c
          ∧ r.2.mem ((c.tc : Thread Cert.ReferenceIdeal.nD Cert.ReferenceIdeal.τ).loc Cert.ReferenceIdeal.main_v40_1) = v1 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5))

def bitexact_Words_WordsReference [hWords : Cert.Words.Facts] [hWordsReference : Cert.WordsReference.Facts] : Prop :=
  ∀ (m : (ℓ : Loc Cert.Words.nD Cert.Words.τ Cert.Words.sig) → Buf (Elt Bits) ℓ) (g : Dev Cert.Words.nD → PrngReg)
    (m' : (ℓ : Loc Cert.WordsReference.nD Cert.WordsReference.τ Cert.WordsReference.sig) → Buf (Elt Bits) ℓ) (g' : Dev Cert.WordsReference.nD → PrngReg), Pre_Words m →
    (∀ c : Dev Cert.Words.nD,
      m' ((c.tc : Thread Cert.WordsReference.nD Cert.WordsReference.τ).loc Cert.WordsReference.main_arg0) = m ((c.tc : Thread Cert.Words.nD Cert.Words.τ).loc Cert.Words.main_arg0)) →
    ∃ (v0 : (c : Dev Cert.Words.nD) → Buf (Elt Bits) ((c.tc : Thread Cert.Words.nD Cert.Words.τ).loc Cert.Words.main_v1)),
      θ_run (Cert.Words.defs (F := Bits)) (onTc (τ := Cert.Words.τ) (Cert.Words.main (F := Bits))) ⟨m, fun _ => 0, g⟩ (fun r => ∀ c : Dev Cert.Words.nD,
          r.2.mem ((c.tc : Thread Cert.Words.nD Cert.Words.τ).loc Cert.Words.main_v1) = v0 c
          ∧ r.2.mem ((c.tc : Thread Cert.Words.nD Cert.Words.τ).loc Cert.Words.main_arg0) = m ((c.tc : Thread Cert.Words.nD Cert.Words.τ).loc Cert.Words.main_arg0))
      ∧ θ_run (Cert.WordsReference.defs (F := Bits)) (onTc (τ := Cert.WordsReference.τ) (Cert.WordsReference.main (F := Bits))) ⟨m', fun _ => 0, g'⟩ (fun r => ∀ c : Dev Cert.WordsReference.nD,
          r.2.mem ((c.tc : Thread Cert.WordsReference.nD Cert.WordsReference.τ).loc Cert.WordsReference.main_v20) = v0 c
          ∧ r.2.mem ((c.tc : Thread Cert.WordsReference.nD Cert.WordsReference.τ).loc Cert.WordsReference.main_arg0) = m' ((c.tc : Thread Cert.WordsReference.nD Cert.WordsReference.τ).loc Cert.WordsReference.main_arg0))

def Claim : Prop :=
  ∃ (hKernel : Cert.Kernel.Facts) (hKernelIdeal : Cert.KernelIdeal.Facts) (hReferenceIdeal : Cert.ReferenceIdeal.Facts) (hWords : Cert.Words.Facts) (hWordsReference : Cert.WordsReference.Facts) (hPre_in_range : Cert.Pre_in_range.Facts),
    quiescent_Kernel (hKernel := hKernel)
    ∧ quiescent_KernelIdeal (hKernelIdeal := hKernelIdeal)
    ∧ quiescent_KernelIdeal_pre_in_range (hKernelIdeal := hKernelIdeal) (hPre_in_range := hPre_in_range)
    ∧ quiescent_ReferenceIdeal (hReferenceIdeal := hReferenceIdeal)
    ∧ quiescent_ReferenceIdeal_pre_in_range (hReferenceIdeal := hReferenceIdeal) (hPre_in_range := hPre_in_range)
    ∧ quiescent_Words (hWords := hWords)
    ∧ quiescent_WordsReference (hWordsReference := hWordsReference)
    ∧ preserves_Kernel_KernelIdeal
    ∧ algebraic_KernelIdeal_ReferenceIdeal_pre_in_range (hKernelIdeal := hKernelIdeal) (hReferenceIdeal := hReferenceIdeal) (hPre_in_range := hPre_in_range)
    ∧ bitexact_Words_WordsReference (hWords := hWords) (hWordsReference := hWordsReference)
-- ==== Pre_in_range.lean ====
abbrev S24x2048 : Shape := ⟨2, ![24, 2048]⟩
abbrev S24x2048x27 : Shape := ⟨3, ![24, 2048, 27]⟩
abbrev S24x16x54x8x128 : Shape := ⟨5, ![24, 16, 54, 8, 128]⟩
abbrev S27x64x80 : Shape := ⟨3, ![27, 64, 80]⟩
abbrev S80 : Shape := ⟨1, ![80]⟩
abbrev S_ : Shape := ⟨0, ![]⟩
abbrev S24x16x54x8x128x1 : Shape := ⟨6, ![24, 16, 54, 8, 128, 1]⟩
abbrev S4 : Shape := ⟨1, ![4]⟩
abbrev S1x1x1x1x1x4 : Shape := ⟨6, ![1, 1, 1, 1, 1, 4]⟩
abbrev S24x16x54x8x128x4 : Shape := ⟨6, ![24, 16, 54, 8, 128, 4]⟩

class Facts : Prop where
  bcast_S_S24x2048 : S_.BroadcastsInDim S24x2048 (![] : Fin 0 → Fin S24x2048.rank)
  bcast_S24x16x54x8x128_S24x16x54x8x128x1_0_1_2_3_4 : S24x16x54x8x128.BroadcastsInDim S24x16x54x8x128x1 (![0, 1, 2, 3, 4] : Fin 5 → Fin S24x16x54x8x128x1.rank)
  bcast_S_S4 : S_.BroadcastsInDim S4 (![] : Fin 0 → Fin S4.rank)
  bcast_S4_S1x1x1x1x1x4_5 : S4.BroadcastsInDim S1x1x1x1x1x4 (![5] : Fin 1 → Fin S1x1x1x1x1x4.rank)
  bcast_S24x16x54x8x128x1_S24x16x54x8x128x4_0_1_2_3_4_5 : S24x16x54x8x128x1.BroadcastsInDim S24x16x54x8x128x4 (![0, 1, 2, 3, 4, 5] : Fin 6 → Fin S24x16x54x8x128x4.rank)
  bcast_S1x1x1x1x1x4_S24x16x54x8x128x4_0_1_2_3_4_5 : S1x1x1x1x1x4.BroadcastsInDim S24x16x54x8x128x4 (![0, 1, 2, 3, 4, 5] : Fin 6 → Fin S24x16x54x8x128x4.rank)
  bcast_S_S24x16x54x8x128x4 : S_.BroadcastsInDim S24x16x54x8x128x4 (![] : Fin 0 → Fin S24x16x54x8x128x4.rank)
  bcast_S_S24x2048x27 : S_.BroadcastsInDim S24x2048x27 (![] : Fin 0 → Fin S24x2048x27.rank)
  bcast_S_S27x64x80 : S_.BroadcastsInDim S27x64x80 (![] : Fin 0 → Fin S27x64x80.rank)
  bcast_S_S80 : S_.BroadcastsInDim S80 (![] : Fin 0 → Fin S80.rank)

variable [Facts]

def fn_part2 {F : FTy → Type} [FloatOps F] (main_arg5 : FVec F S80 .f32) (main_v27 : IVec S24x2048 1) (main_v29 : IVec S24x2048x27 1) (main_v31 : IVec S24x16x54x8x128x4 1) (main_v34 : IVec S27x64x80 1) (main_v35 : FVec F S80 .f32) (main_v36 : FVec F S80 .f32) : IVec S24x2048 1 × IVec S24x2048x27 1 × IVec S24x16x54x8x128x4 1 × IVec S27x64x80 1 × IVec S80 1 × IVec S80 1 :=
  let main_v37 : IVec S80 1 := cmpf .ole main_v35 main_v36
  let main_v38 : FVec F S80 .f32 := Host.absf main_arg5
  let main_cst_9 : FVec F S_ .f32 := constant S_ .f32 0x4E800000#32
  let main_v39 : FVec F S80 .f32 := broadcastInDim S80 ![] bcast_S_S80 main_cst_9
  let main_v40 : IVec S80 1 := cmpf .ole main_v38 main_v39
  (main_v27, main_v29, main_v31, main_v34, main_v37, main_v40)

def fn_part1 {F : FTy → Type} [FloatOps F] (main_arg0 : FVec F S24x2048 .f32) (main_arg1 : IVec S24x2048x27 32) (main_arg3 : FVec F S27x64x80 .bf16) (main_arg4 : FVec F S80 .f32) (main_arg5 : FVec F S80 .f32) (main_v14 : IVec S24x2048 1) (main_v15 : IVec S24x16x54x8x128x1 32) (main_v18 : IVec S4 32) : IVec S24x2048 1 × IVec S24x2048x27 1 × IVec S24x16x54x8x128x4 1 × IVec S27x64x80 1 × IVec S80 1 × IVec S80 1 :=
  let main_v19 : IVec S1x1x1x1x1x4 32 := broadcastInDim S1x1x1x1x1x4 ![5] bcast_S4_S1x1x1x1x1x4_5 main_v18
  let main_v20 : IVec S24x16x54x8x128x4 32 := broadcastInDim S24x16x54x8x128x4 ![0, 1, 2, 3, 4, 5] bcast_S24x16x54x8x128x1_S24x16x54x8x128x4_0_1_2_3_4_5 main_v15
  let main_v21 : IVec S24x16x54x8x128x4 32 := broadcastInDim S24x16x54x8x128x4 ![0, 1, 2, 3, 4, 5] bcast_S1x1x1x1x1x4_S24x16x54x8x128x4_0_1_2_3_4_5 main_v19
  let main_v22 : IVec S24x16x54x8x128x4 32 := Host.shrsi main_v20 main_v21
  let main_c_3 : IVec S_ 32 := constantI S_ 32 127#32
  let main_v23 : IVec S24x16x54x8x128x4 32 := broadcastInDim S24x16x54x8x128x4 ![] bcast_S_S24x16x54x8x128x4 main_c_3
  let main_v24 : IVec S24x16x54x8x128x4 32 := andi main_v22 main_v23
  let main_cst_4 : FVec F S_ .f32 := constant S_ .f32 0x00000000#32
  let main_v25 : FVec F S24x2048 .f32 := broadcastInDim S24x2048 ![] bcast_S_S24x2048 main_cst_4
  let main_v26 : IVec S24x2048 1 := cmpf .oeq main_arg0 main_v25
  let main_v27 : IVec S24x2048 1 := ori main_v26 main_v14
  let main_c_5 : IVec S_ 32 := constantI S_ 32 2048#32
  let main_v28 : IVec S24x2048x27 32 := broadcastInDim S24x2048x27 ![] bcast_S_S24x2048x27 main_c_5
  let main_v29 : IVec S24x2048x27 1 := cmpi .slt main_arg1 main_v28
  let main_c_6 : IVec S_ 32 := constantI S_ 32 127#32
  let main_v30 : IVec S24x16x54x8x128x4 32 := broadcastInDim S24x16x54x8x128x4 ![] bcast_S_S24x16x54x8x128x4 main_c_6
  let main_v31 : IVec S24x16x54x8x128x4 1 := cmpi .ne main_v24 main_v30
  let main_v32 : FVec F S27x64x80 .bf16 := Host.absf main_arg3
  let main_cst_7 : FVec F S_ .bf16 := constant S_ .bf16 0x43E0#16
  let main_v33 : FVec F S27x64x80 .bf16 := broadcastInDim S27x64x80 ![] bcast_S_S27x64x80 main_cst_7
  let main_v34 : IVec S27x64x80 1 := cmpf .ole main_v32 main_v33
  let main_v35 : FVec F S80 .f32 := Host.absf main_arg4
  let main_cst_8 : FVec F S_ .f32 := constant S_ .f32 0x4E800000#32
  let main_v36 : FVec F S80 .f32 := broadcastInDim S80 ![] bcast_S_S80 main_cst_8
  fn_part2 (F := F) main_arg5 main_v27 main_v29 main_v31 main_v34 main_v35 main_v36

def fn {F : FTy → Type} [FloatOps F] (main_arg0 : FVec F S24x2048 .f32) (main_arg1 : IVec S24x2048x27 32) (main_arg2 : IVec S24x16x54x8x128 32) (main_arg3 : FVec F S27x64x80 .bf16) (main_arg4 : FVec F S80 .f32) (main_arg5 : FVec F S80 .f32) : IVec S24x2048 1 × IVec S24x2048x27 1 × IVec S24x16x54x8x128x4 1 × IVec S27x64x80 1 × IVec S80 1 × IVec S80 1 :=
  let main_v0 : FVec F S24x2048 .f32 := Host.log main_arg0
  let main_cst : FVec F S_ .f32 := constant S_ .f32 0x40000000#32
  let main_v1 : FVec F S24x2048 .f32 := broadcastInDim S24x2048 ![] bcast_S_S24x2048 main_cst
  let main_v2 : FVec F S24x2048 .f32 := Host.log main_v1
  let main_v3 : FVec F S24x2048 .f32 := Host.divf main_v0 main_v2
  let main_cst_0 : FVec F S_ .f32 := constant S_ .f32 0x00000000#32
  let main_v4 : FVec F S24x2048 .f32 := broadcastInDim S24x2048 ![] bcast_S_S24x2048 main_cst_0
  let main_v5 : IVec S24x2048 1 := cmpf .ogt main_arg0 main_v4
  let main_v6 : FVec F S24x2048 .f32 := Host.floor main_v3
  let main_v7 : IVec S24x2048 1 := cmpf .oeq main_v3 main_v6
  let main_v8 : IVec S24x2048 1 := andi main_v5 main_v7
  let main_cst_1 : FVec F S_ .f32 := constant S_ .f32 0xC2FC0000#32
  let main_v9 : FVec F S24x2048 .f32 := broadcastInDim S24x2048 ![] bcast_S_S24x2048 main_cst_1
  let main_v10 : IVec S24x2048 1 := cmpf .oge main_v3 main_v9
  let main_v11 : IVec S24x2048 1 := andi main_v8 main_v10
  let main_cst_2 : FVec F S_ .f32 := constant S_ .f32 0x41F00000#32
  let main_v12 : FVec F S24x2048 .f32 := broadcastInDim S24x2048 ![] bcast_S_S24x2048 main_cst_2
  let main_v13 : IVec S24x2048 1 := cmpf .ole main_v3 main_v12
  let main_v14 : IVec S24x2048 1 := andi main_v11 main_v13
  let main_v15 : IVec S24x16x54x8x128x1 32 := broadcastInDim S24x16x54x8x128x1 ![0, 1, 2, 3, 4] bcast_S24x16x54x8x128_S24x16x54x8x128x1_0_1_2_3_4 main_arg2
  let main_v16 : IVec S4 32 := iotaInDim S4 32 0
  let main_c : IVec S_ 32 := constantI S_ 32 8#32
  let main_v17 : IVec S4 32 := broadcastInDim S4 ![] bcast_S_S4 main_c
  let main_v18 : IVec S4 32 := muli main_v17 main_v16
  fn_part1 (F := F) main_arg0 main_arg1 main_arg3 main_arg4 main_arg5 main_v14 main_v15 main_v18
-- ==== Kernel.lean ====
abbrev S24x2048 : Shape := ⟨2, ![24, 2048]⟩
abbrev S24x2048x27 : Shape := ⟨3, ![24, 2048, 27]⟩
abbrev S24x16x54x8x128 : Shape := ⟨5, ![24, 16, 54, 8, 128]⟩
abbrev S27x64x80 : Shape := ⟨3, ![27, 64, 80]⟩
abbrev S80 : Shape := ⟨1, ![80]⟩
abbrev S27x24x2048 : Shape := ⟨3, ![27, 24, 2048]⟩
abbrev S1728x80 : Shape := ⟨2, ![1728, 80]⟩
abbrev S80x1728 : Shape := ⟨2, ![80, 1728]⟩
abbrev S80x1 : Shape := ⟨2, ![80, 1]⟩
abbrev S80x128 : Shape := ⟨2, ![80, 128]⟩
abbrev S24x80x2048 : Shape := ⟨3, ![24, 80, 2048]⟩
abbrev S8x2048 : Shape := ⟨2, ![8, 2048]⟩
abbrev S27x8x128 : Shape := ⟨3, ![27, 8, 128]⟩
abbrev S8x1x54x8x128 : Shape := ⟨5, ![8, 1, 54, 8, 128]⟩
abbrev S8x80x128 : Shape := ⟨3, ![8, 80, 128]⟩
abbrev S8x128 : Shape := ⟨2, ![8, 128]⟩
abbrev S8x512 : Shape := ⟨2, ![8, 512]⟩
abbrev S1x8x128 : Shape := ⟨3, ![1, 8, 128]⟩
abbrev S8x128x1 : Shape := ⟨3, ![8, 128, 1]⟩
abbrev S80x256 : Shape := ⟨2, ![80, 256]⟩
abbrev S1x1x128 : Shape := ⟨3, ![1, 1, 128]⟩
abbrev S1x128 : Shape := ⟨2, ![1, 128]⟩
abbrev S16x128 : Shape := ⟨2, ![16, 128]⟩
abbrev S1x1x1x8x128 : Shape := ⟨5, ![1, 1, 1, 8, 128]⟩
abbrev S32x128 : Shape := ⟨2, ![32, 128]⟩
abbrev S256x128 : Shape := ⟨2, ![256, 128]⟩
abbrev S256x256 : Shape := ⟨2, ![256, 256]⟩
abbrev S192x128 : Shape := ⟨2, ![192, 128]⟩
abbrev S192x256 : Shape := ⟨2, ![192, 256]⟩
abbrev S80x192 : Shape := ⟨2, ![80, 192]⟩
abbrev S128 : Shape := ⟨1, ![128]⟩
abbrev S1x80x128 : Shape := ⟨3, ![1, 80, 128]⟩

abbrev nBuf : Space → Nat
  | .hbm => 15
  | .vmem => 15
  | .smem => 0
  | _ => 0

abbrev bufTy : (tb : Table) → Fin (tcTables nBuf tb) → BufTy
  | .hbm, ⟨0, _⟩ => ⟨S24x2048, .f32⟩
  | .hbm, ⟨1, _⟩ => ⟨S24x2048x27, .i32⟩
  | .hbm, ⟨2, _⟩ => ⟨S24x16x54x8x128, .i32⟩
  | .hbm, ⟨3, _⟩ => ⟨S27x64x80, .bf16⟩
  | .hbm, ⟨4, _⟩ => ⟨S80, .f32⟩
  | .hbm, ⟨5, _⟩ => ⟨S80, .f32⟩
  | .hbm, ⟨6, _⟩ => ⟨S27x24x2048, .i32⟩
  | .hbm, ⟨7, _⟩ => ⟨S1728x80, .bf16⟩
  | .hbm, ⟨8, _⟩ => ⟨S80x1728, .bf16⟩
  | .hbm, ⟨9, _⟩ => ⟨S80x1, .f32⟩
  | .hbm, ⟨10, _⟩ => ⟨S80x128, .f32⟩
  | .hbm, ⟨11, _⟩ => ⟨S80x1, .f32⟩
  | .hbm, ⟨12, _⟩ => ⟨S80x128, .f32⟩
  | .hbm, ⟨13, _⟩ => ⟨S24x80x2048, .fp8e4m3⟩
  | .hbm, ⟨14, _⟩ => ⟨S24x2048, .f32⟩
  | .local _ .vmem, ⟨0, _⟩ => ⟨S8x2048, .f32⟩
  | .local _ .vmem, ⟨1, _⟩ => ⟨S8x2048, .f32⟩
  | .local _ .vmem, ⟨2, _⟩ => ⟨S27x8x128, .i32⟩
  | .local _ .vmem, ⟨3, _⟩ => ⟨S27x8x128, .i32⟩
  | .local _ .vmem, ⟨4, _⟩ => ⟨S8x1x54x8x128, .i32⟩
  | .local _ .vmem, ⟨5, _⟩ => ⟨S8x1x54x8x128, .i32⟩
  | .local _ .vmem, ⟨6, _⟩ => ⟨S80x1728, .bf16⟩
  | .local _ .vmem, ⟨7, _⟩ => ⟨S80x128, .f32⟩
  | .local _ .vmem, ⟨8, _⟩ => ⟨S80x128, .f32⟩
  | .local _ .vmem, ⟨9, _⟩ => ⟨S8x80x128, .fp8e4m3⟩
  | .local _ .vmem, ⟨10, _⟩ => ⟨S8x80x128, .fp8e4m3⟩
  | .local _ .vmem, ⟨11, _⟩ => ⟨S8x128, .f32⟩
  | .local _ .vmem, ⟨12, _⟩ => ⟨S8x128, .f32⟩
  | .local _ .vmem, ⟨13, _⟩ => ⟨S8x512, .i32⟩
  | .local _ .vmem, ⟨14, _⟩ => ⟨S27x8x128, .i32⟩
  | _, _ => ⟨S24x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | _, _ => false

abbrev semScoped : Fin 0 → Bool
  | ⟨_, h⟩ => absurd h (Nat.not_lt_zero _)

abbrev dmaSemScoped : Fin 13 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | _ => false

abbrev sig : RefSig :=
  ofTc nBuf bufTy 0 13 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_v7_0 : Ref sig .tc := ⟨.hbm, 13, rfl⟩
abbrev main_v7_1 : Ref sig .tc := ⟨.hbm, 14, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg4_0 : Ref sig .tc := ⟨.vmem, 7, rfl⟩
abbrev cc0_stg5_0 : Ref sig .tc := ⟨.vmem, 8, rfl⟩
abbrev cc0_stg6_0 : Ref sig .tc := ⟨.vmem, 9, rfl⟩
abbrev cc0_stg6_1 : Ref sig .tc := ⟨.vmem, 10, rfl⟩
abbrev cc0_stg7_0 : Ref sig .tc := ⟨.vmem, 11, rfl⟩
abbrev cc0_stg7_1 : Ref sig .tc := ⟨.vmem, 12, rfl⟩
abbrev cc0_scratch0 : Ref sig .tc := ⟨.vmem, 13, rfl⟩
abbrev cc0_scratch1 : Ref sig .tc := ⟨.vmem, 14, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem4_0 : DmaSem sig := 7
abbrev cc0_sem5_0 : DmaSem sig := 8
abbrev cc0_sem6_0 : DmaSem sig := 9
abbrev cc0_sem6_1 : DmaSem sig := 10
abbrev cc0_sem7_0 : DmaSem sig := 11
abbrev cc0_sem7_1 : DmaSem sig := 12

abbrev nD : Nat := 1
abbrev τ : Topo := Topo.v7x

variable {F : FTy → Type} [FloatOps F]

abbrev grid0 : Pipeline.Grid := ⟨2, ![3, 16], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat, arg1.toNat]

def cc0_transform_2 (i : grid0.Coords) : Fin 5 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  let c0_i32_2 : BitVec 32 := 0#32
  ![arg0.toNat, arg1.toNat, c0_i32.toNat, c0_i32_0.toNat, c0_i32_1.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat, arg1.toNat]

def cc0_transform_7 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage0_0 : Fin 2 → Memref sig .tc .vmem S8x2048 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 2 → Memref sig .tc .vmem S27x8x128 .i32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S8x1x54x8x128 .i32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 1 → Memref sig .tc .vmem S80x1728 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false, false]

abbrev stage0_4 : Fin 1 → Memref sig .tc .vmem S80x128 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false, false]

abbrev stage0_5 : Fin 1 → Memref sig .tc .vmem S80x128 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false, false]

abbrev stage0_6 : Fin 2 → Memref sig .tc .vmem S8x80x128 .fp8e4m3 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, true]

abbrev stage0_7 : Fin 2 → Memref sig .tc .vmem S8x128 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true, true]
-- ==== ReferenceIdeal.lean ====
abbrev S24x2048 : Shape := ⟨2, ![24, 2048]⟩
abbrev S24x2048x27 : Shape := ⟨3, ![24, 2048, 27]⟩
abbrev S24x16x54x8x128 : Shape := ⟨5, ![24, 16, 54, 8, 128]⟩
abbrev S27x64x80 : Shape := ⟨3, ![27, 64, 80]⟩
abbrev S80 : Shape := ⟨1, ![80]⟩
abbrev S24x16x27x16x128 : Shape := ⟨5, ![24, 16, 27, 16, 128]⟩
abbrev S24x16x27x16x1x128 : Shape := ⟨6, ![24, 16, 27, 16, 1, 128]⟩
abbrev S4 : Shape := ⟨1, ![4]⟩
abbrev S_ : Shape := ⟨0, ![]⟩
abbrev S4x1 : Shape := ⟨2, ![4, 1]⟩
abbrev S1x1x1x1x4x1 : Shape := ⟨6, ![1, 1, 1, 1, 4, 1]⟩
abbrev S24x16x27x16x4x128 : Shape := ⟨6, ![24, 16, 27, 16, 4, 128]⟩
abbrev S24x27x16x4x16x128 : Shape := ⟨6, ![24, 27, 16, 4, 16, 128]⟩
abbrev S24x1728x2048 : Shape := ⟨3, ![24, 1728, 2048]⟩
abbrev S24 : Shape := ⟨1, ![24]⟩
abbrev S24x1x1 : Shape := ⟨3, ![24, 1, 1]⟩
abbrev S49152 : Shape := ⟨1, ![49152]⟩
abbrev S1327104 : Shape := ⟨1, ![1327104]⟩
abbrev S1327104x1 : Shape := ⟨2, ![1327104, 1]⟩
abbrev S24x27x2048 : Shape := ⟨3, ![24, 27, 2048]⟩
abbrev S24x27x64x2048 : Shape := ⟨4, ![24, 27, 64, 2048]⟩
abbrev S1728x80 : Shape := ⟨2, ![1728, 80]⟩
abbrev S80x1728 : Shape := ⟨2, ![80, 1728]⟩
abbrev S24x80x1728 : Shape := ⟨3, ![24, 80, 1728]⟩
abbrev S1x80x1 : Shape := ⟨3, ![1, 80, 1]⟩
abbrev S24x80x2048 : Shape := ⟨3, ![24, 80, 2048]⟩
abbrev S24x1x2048 : Shape := ⟨3, ![24, 1, 2048]⟩

abbrev nBuf : Space → Nat
  | .hbm => 53
  | .vmem => 8
  | .smem => 0
  | _ => 0

abbrev bufTy : (tb : Table) → Fin (tcTables nBuf tb) → BufTy
  | .hbm, ⟨0, _⟩ => ⟨S24x2048, .f32⟩
  | .hbm, ⟨1, _⟩ => ⟨S24x2048x27, .i32⟩
  | .hbm, ⟨2, _⟩ => ⟨S24x16x54x8x128, .i32⟩
  | .hbm, ⟨3, _⟩ => ⟨S27x64x80, .bf16⟩
  | .hbm, ⟨4, _⟩ => ⟨S80, .f32⟩
  | .hbm, ⟨5, _⟩ => ⟨S80, .f32⟩
  | .hbm, ⟨6, _⟩ => ⟨S24x16x27x16x128, .i32⟩
  | .hbm, ⟨7, _⟩ => ⟨S24x16x27x16x1x128, .i32⟩
  | .hbm, ⟨8, _⟩ => ⟨S4, .i32⟩
  | .hbm, ⟨9, _⟩ => ⟨S_, .i32⟩
  | .hbm, ⟨10, _⟩ => ⟨S4, .i32⟩
  | .hbm, ⟨11, _⟩ => ⟨S4, .i32⟩
  | .hbm, ⟨12, _⟩ => ⟨S4x1, .i32⟩
  | .hbm, ⟨13, _⟩ => ⟨S1x1x1x1x4x1, .i32⟩
  | .hbm, ⟨14, _⟩ => ⟨S24x16x27x16x4x128, .i32⟩
  | .hbm, ⟨15, _⟩ => ⟨S24x16x27x16x4x128, .i32⟩
  | .hbm, ⟨16, _⟩ => ⟨S24x16x27x16x4x128, .i32⟩
  | .hbm, ⟨17, _⟩ => ⟨S24x16x27x16x4x128, .i8⟩
  | .hbm, ⟨18, _⟩ => ⟨S24x27x16x4x16x128, .i8⟩
  | .hbm, ⟨19, _⟩ => ⟨S24x1728x2048, .i8⟩
  | .hbm, ⟨20, _⟩ => ⟨S_, .i32⟩
  | .hbm, ⟨21, _⟩ => ⟨S24x2048x27, .i32⟩
  | .hbm, ⟨22, _⟩ => ⟨S24x2048x27, .i32⟩
  | .hbm, ⟨23, _⟩ => ⟨S24, .i32⟩
  | .hbm, ⟨24, _⟩ => ⟨S_, .i32⟩
  | .hbm, ⟨25, _⟩ => ⟨S24, .i32⟩
  | .hbm, ⟨26, _⟩ => ⟨S24, .i32⟩
  | .hbm, ⟨27, _⟩ => ⟨S24x1x1, .i32⟩
  | .hbm, ⟨28, _⟩ => ⟨S24x2048x27, .i32⟩
  | .hbm, ⟨29, _⟩ => ⟨S24x2048x27, .i32⟩
  | .hbm, ⟨30, _⟩ => ⟨S24x2048, .bf16⟩
  | .hbm, ⟨31, _⟩ => ⟨S49152, .bf16⟩
  | .hbm, ⟨32, _⟩ => ⟨S1327104, .i32⟩
  | .hbm, ⟨33, _⟩ => ⟨S1327104x1, .i32⟩
  | .hbm, ⟨34, _⟩ => ⟨S1327104, .bf16⟩
  | .hbm, ⟨35, _⟩ => ⟨S24x2048x27, .bf16⟩
  | .hbm, ⟨36, _⟩ => ⟨S24x27x2048, .bf16⟩
  | .hbm, ⟨37, _⟩ => ⟨S24x27x64x2048, .bf16⟩
  | .hbm, ⟨38, _⟩ => ⟨S24x1728x2048, .bf16⟩
  | .hbm, ⟨39, _⟩ => ⟨S_, .i32⟩
  | .hbm, ⟨40, _⟩ => ⟨S24x2048x27, .i32⟩
  | .hbm, ⟨41, _⟩ => ⟨S24x2048x27, .i1⟩
  | .hbm, ⟨42, _⟩ => ⟨S24x2048x27, .i32⟩
  | .hbm, ⟨43, _⟩ => ⟨S24x27x2048, .i32⟩
  | .hbm, ⟨44, _⟩ => ⟨S24x27x64x2048, .i32⟩
  | .hbm, ⟨45, _⟩ => ⟨S24x1728x2048, .i32⟩
  | .hbm, ⟨46, _⟩ => ⟨S1728x80, .bf16⟩
  | .hbm, ⟨47, _⟩ => ⟨S80x1728, .bf16⟩
  | .hbm, ⟨48, _⟩ => ⟨S24x80x1728, .bf16⟩
  | .hbm, ⟨49, _⟩ => ⟨S1x80x1, .f32⟩
  | .hbm, ⟨50, _⟩ => ⟨S1x80x1, .f32⟩
  | .hbm, ⟨51, _⟩ => ⟨S24x80x2048, .fp8e4m3⟩
  | .hbm, ⟨52, _⟩ => ⟨S24x2048, .f32⟩
  | .local _ .vmem, ⟨0, _⟩ => ⟨S24x1728x2048, .i8⟩
  | .local _ .vmem, ⟨1, _⟩ => ⟨S24x1728x2048, .bf16⟩
  | .local _ .vmem, ⟨2, _⟩ => ⟨S24x1728x2048, .i32⟩
  | .local _ .vmem, ⟨3, _⟩ => ⟨S24x80x1728, .bf16⟩
  | .local _ .vmem, ⟨4, _⟩ => ⟨S1x80x1, .f32⟩
  | .local _ .vmem, ⟨5, _⟩ => ⟨S1x80x1, .f32⟩
  | .local _ .vmem, ⟨6, _⟩ => ⟨S24x80x2048, .fp8e4m3⟩
  | .local _ .vmem, ⟨7, _⟩ => ⟨S24x2048, .f32⟩
  | _, _ => ⟨S24x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_c : Ref sig .tc := ⟨.hbm, 9, rfl⟩
abbrev main_v3 : Ref sig .tc := ⟨.hbm, 10, rfl⟩
abbrev main_v4 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_v8 : Ref sig .tc := ⟨.hbm, 15, rfl⟩
abbrev main_v9 : Ref sig .tc := ⟨.hbm, 16, rfl⟩
abbrev main_v10 : Ref sig .tc := ⟨.hbm, 17, rfl⟩
abbrev main_v11 : Ref sig .tc := ⟨.hbm, 18, rfl⟩
abbrev main_v12 : Ref sig .tc := ⟨.hbm, 19, rfl⟩
abbrev main_c_0 : Ref sig .tc := ⟨.hbm, 20, rfl⟩
abbrev main_v13 : Ref sig .tc := ⟨.hbm, 21, rfl⟩
abbrev main_v14 : Ref sig .tc := ⟨.hbm, 22, rfl⟩
abbrev main_v15 : Ref sig .tc := ⟨.hbm, 23, rfl⟩
abbrev main_c_1 : Ref sig .tc := ⟨.hbm, 24, rfl⟩
abbrev main_v16 : Ref sig .tc := ⟨.hbm, 25, rfl⟩
abbrev main_v17 : Ref sig .tc := ⟨.hbm, 26, rfl⟩
abbrev main_v18 : Ref sig .tc := ⟨.hbm, 27, rfl⟩
abbrev main_v19 : Ref sig .tc := ⟨.hbm, 28, rfl⟩
abbrev main_v20 : Ref sig .tc := ⟨.hbm, 29, rfl⟩
abbrev main_v21 : Ref sig .tc := ⟨.hbm, 30, rfl⟩
abbrev main_v22 : Ref sig .tc := ⟨.hbm, 31, rfl⟩
abbrev main_v23 : Ref sig .tc := ⟨.hbm, 32, rfl⟩
abbrev main_call0_v0 : Ref sig .tc := ⟨.hbm, 33, rfl⟩
abbrev main_v24 : Ref sig .tc := ⟨.hbm, 34, rfl⟩
abbrev main_v25 : Ref sig .tc := ⟨.hbm, 35, rfl⟩
abbrev main_v26 : Ref sig .tc := ⟨.hbm, 36, rfl⟩
abbrev main_v27 : Ref sig .tc := ⟨.hbm, 37, rfl⟩
abbrev main_v28 : Ref sig .tc := ⟨.hbm, 38, rfl⟩
abbrev main_c_2 : Ref sig .tc := ⟨.hbm, 39, rfl⟩
abbrev main_v29 : Ref sig .tc := ⟨.hbm, 40, rfl⟩
abbrev main_v30 : Ref sig .tc := ⟨.hbm, 41, rfl⟩
abbrev main_v31 : Ref sig .tc := ⟨.hbm, 42, rfl⟩
abbrev main_v32 : Ref sig .tc := ⟨.hbm, 43, rfl⟩
abbrev main_v33 : Ref sig .tc := ⟨.hbm, 44, rfl⟩
abbrev main_v34 : Ref sig .tc := ⟨.hbm, 45, rfl⟩
abbrev main_v35 : Ref sig .tc := ⟨.hbm, 46, rfl⟩
abbrev main_v36 : Ref sig .tc := ⟨.hbm, 47, rfl⟩
abbrev main_v37 : Ref sig .tc := ⟨.hbm, 48, rfl⟩
abbrev main_v38 : Ref sig .tc := ⟨.hbm, 49, rfl⟩
abbrev main_v39 : Ref sig .tc := ⟨.hbm, 50, rfl⟩
abbrev main_v40_0 : Ref sig .tc := ⟨.hbm, 51, rfl⟩
abbrev main_v40_1 : Ref sig .tc := ⟨.hbm, 52, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_stg6_0 : Ref sig .tc := ⟨.vmem, 6, rfl⟩
abbrev cc0_stg7_0 : Ref sig .tc := ⟨.vmem, 7, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5
abbrev cc0_sem6_0 : DmaSem sig := 6
abbrev cc0_sem7_0 : DmaSem sig := 7

abbrev nD : Nat := 1
abbrev τ : Topo := Topo.v7x

variable {F : FTy → Type} [FloatOps F]

abbrev grid0 : Pipeline.Grid := .none

abbrev stage0_0 : Fin 1 → Memref sig .tc .vmem S24x1728x2048 .i8 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))

abbrev stage0_1 : Fin 1 → Memref sig .tc .vmem S24x1728x2048 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))

abbrev stage0_2 : Fin 1 → Memref sig .tc .vmem S24x1728x2048 .i32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))

abbrev stage0_3 : Fin 1 → Memref sig .tc .vmem S24x80x1728 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))

abbrev stage0_4 : Fin 1 → Memref sig .tc .vmem S1x80x1 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))

abbrev stage0_5 : Fin 1 → Memref sig .tc .vmem S1x80x1 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))

abbrev stage0_6 : Fin 1 → Memref sig .tc .vmem S24x80x2048 .fp8e4m3 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))

abbrev stage0_7 : Fin 1 → Memref sig .tc .vmem S24x2048 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
-- ==== Words.lean ====
abbrev S24x2048x64 : Shape := ⟨3, ![24, 2048, 64]⟩
abbrev S24x64x2048 : Shape := ⟨3, ![24, 64, 2048]⟩
abbrev S24x2x16x8x128 : Shape := ⟨5, ![24, 2, 16, 8, 128]⟩
abbrev S6x64x2048 : Shape := ⟨3, ![6, 64, 2048]⟩
abbrev S6x2x16x8x128 : Shape := ⟨5, ![6, 2, 16, 8, 128]⟩
abbrev S1x64x2048 : Shape := ⟨3, ![1, 64, 2048]⟩
abbrev S64x2048 : Shape := ⟨2, ![64, 2048]⟩
abbrev S16x2048 : Shape := ⟨2, ![16, 2048]⟩
abbrev S8x128 : Shape := ⟨2, ![8, 128]⟩
abbrev S1x1x1x8x128 : Shape := ⟨5, ![1, 1, 1, 8, 128]⟩

abbrev nBuf : Space → Nat
  | .hbm => 3
  | .vmem => 4
  | .smem => 0
  | _ => 0

abbrev bufTy : (tb : Table) → Fin (tcTables nBuf tb) → BufTy
  | .hbm, ⟨0, _⟩ => ⟨S24x2048x64, .fp8e4m3⟩
  | .hbm, ⟨1, _⟩ => ⟨S24x64x2048, .fp8e4m3⟩
  | .hbm, ⟨2, _⟩ => ⟨S24x2x16x8x128, .i32⟩
  | .local _ .vmem, ⟨0, _⟩ => ⟨S6x64x2048, .fp8e4m3⟩
  | .local _ .vmem, ⟨1, _⟩ => ⟨S6x64x2048, .fp8e4m3⟩
  | .local _ .vmem, ⟨2, _⟩ => ⟨S6x2x16x8x128, .i32⟩
  | .local _ .vmem, ⟨3, _⟩ => ⟨S6x2x16x8x128, .i32⟩
  | _, _ => ⟨S24x2048x64, .fp8e4m3⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | _, _ => false

abbrev semScoped : Fin 0 → Bool
  | ⟨_, h⟩ => absurd h (Nat.not_lt_zero _)

abbrev dmaSemScoped : Fin 4 → Bool
  | ⟨0, _⟩ => true
  | ⟨1, _⟩ => true
  | ⟨2, _⟩ => true
  | ⟨3, _⟩ => true
  | _ => false

abbrev sig : RefSig :=
  ofTc nBuf bufTy 0 4 bufScoped semScoped dmaSemScoped tileCredit tileCredit_eq_zero tileCredit_pos

abbrev main_arg0 : Ref sig .tc := ⟨.hbm, 0, rfl⟩
abbrev main_v0 : Ref sig .tc := ⟨.hbm, 1, rfl⟩
abbrev main_v1 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_sem0_0 : DmaSem sig := 0
abbrev cc0_sem0_1 : DmaSem sig := 1
abbrev cc0_sem1_0 : DmaSem sig := 2
abbrev cc0_sem1_1 : DmaSem sig := 3

abbrev nD : Nat := 1
abbrev τ : Topo := Topo.v7x

variable {F : FTy → Type} [BitOps F]

abbrev grid0 : Pipeline.Grid := ⟨1, ![4], ![false]⟩

def cc0_transform_0 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_1 (i : grid0.Coords) : Fin 5 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  let c0_i32_3 : BitVec 32 := 0#32
  ![arg0.toNat, c0_i32.toNat, c0_i32_0.toNat, c0_i32_1.toNat, c0_i32_2.toNat]

abbrev stage0_0 : Fin 2 → Memref sig .tc .vmem S6x64x2048 .fp8e4m3 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S6x2x16x8x128 .i32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]
-- ==== WordsReference.lean ====
abbrev S24x2048x64 : Shape := ⟨3, ![24, 2048, 64]⟩
abbrev S24x16x128x2x8x4 : Shape := ⟨6, ![24, 16, 128, 2, 8, 4]⟩
abbrev S24x16x128x2x8x1 : Shape := ⟨6, ![24, 16, 128, 2, 8, 1]⟩
abbrev S24x16x128x2x8 : Shape := ⟨5, ![24, 16, 128, 2, 8]⟩
abbrev S_ : Shape := ⟨0, ![]⟩
abbrev S24x2x16x8x128 : Shape := ⟨5, ![24, 2, 16, 8, 128]⟩

abbrev nBuf : Space → Nat
  | .hbm => 25
  | .vmem => 0
  | .smem => 0
  | _ => 0

abbrev bufTy : (tb : Table) → Fin (tcTables nBuf tb) → BufTy
  | .hbm, ⟨0, _⟩ => ⟨S24x2048x64, .fp8e4m3⟩
  | .hbm, ⟨1, _⟩ => ⟨S24x2048x64, .i8⟩
  | .hbm, ⟨2, _⟩ => ⟨S24x2048x64, .i32⟩
  | .hbm, ⟨3, _⟩ => ⟨S24x16x128x2x8x4, .i32⟩
  | .hbm, ⟨4, _⟩ => ⟨S24x16x128x2x8x1, .i32⟩
  | .hbm, ⟨5, _⟩ => ⟨S24x16x128x2x8, .i32⟩
  | .hbm, ⟨6, _⟩ => ⟨S24x16x128x2x8x1, .i32⟩
  | .hbm, ⟨7, _⟩ => ⟨S24x16x128x2x8, .i32⟩
  | .hbm, ⟨8, _⟩ => ⟨S_, .i32⟩
  | .hbm, ⟨9, _⟩ => ⟨S24x16x128x2x8, .i32⟩
  | .hbm, ⟨10, _⟩ => ⟨S24x16x128x2x8, .i32⟩
  | .hbm, ⟨11, _⟩ => ⟨S24x16x128x2x8, .i32⟩
  | .hbm, ⟨12, _⟩ => ⟨S24x16x128x2x8x1, .i32⟩
  | .hbm, ⟨13, _⟩ => ⟨S24x16x128x2x8, .i32⟩
  | .hbm, ⟨14, _⟩ => ⟨S_, .i32⟩
  | .hbm, ⟨15, _⟩ => ⟨S24x16x128x2x8, .i32⟩
  | .hbm, ⟨16, _⟩ => ⟨S24x16x128x2x8, .i32⟩
  | .hbm, ⟨17, _⟩ => ⟨S24x16x128x2x8, .i32⟩
  | .hbm, ⟨18, _⟩ => ⟨S24x16x128x2x8x1, .i32⟩
  | .hbm, ⟨19, _⟩ => ⟨S24x16x128x2x8, .i32⟩
  | .hbm, ⟨20, _⟩ => ⟨S_, .i32⟩
  | .hbm, ⟨21, _⟩ => ⟨S24x16x128x2x8, .i32⟩
  | .hbm, ⟨22, _⟩ => ⟨S24x16x128x2x8, .i32⟩
  | .hbm, ⟨23, _⟩ => ⟨S24x16x128x2x8, .i32⟩
  | .hbm, ⟨24, _⟩ => ⟨S24x2x16x8x128, .i32⟩
  | _, _ => ⟨S24x2048x64, .fp8e4m3⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_v0 : Ref sig .tc := ⟨.hbm, 1, rfl⟩
abbrev main_v1 : Ref sig .tc := ⟨.hbm, 2, rfl⟩
abbrev main_v2 : Ref sig .tc := ⟨.hbm, 3, rfl⟩
abbrev main_v3 : Ref sig .tc := ⟨.hbm, 4, rfl⟩
abbrev main_v4 : Ref sig .tc := ⟨.hbm, 5, rfl⟩
abbrev main_v5 : Ref sig .tc := ⟨.hbm, 6, rfl⟩
abbrev main_v6 : Ref sig .tc := ⟨.hbm, 7, rfl⟩
abbrev main_c : Ref sig .tc := ⟨.hbm, 8, rfl⟩
abbrev main_v7 : Ref sig .tc := ⟨.hbm, 9, rfl⟩
abbrev main_v8 : Ref sig .tc := ⟨.hbm, 10, rfl⟩
abbrev main_v9 : Ref sig .tc := ⟨.hbm, 11, rfl⟩
abbrev main_v10 : Ref sig .tc := ⟨.hbm, 12, rfl⟩
abbrev main_v11 : Ref sig .tc := ⟨.hbm, 13, rfl⟩
abbrev main_c_0 : Ref sig .tc := ⟨.hbm, 14, rfl⟩
abbrev main_v12 : Ref sig .tc := ⟨.hbm, 15, rfl⟩
abbrev main_v13 : Ref sig .tc := ⟨.hbm, 16, rfl⟩
abbrev main_v14 : Ref sig .tc := ⟨.hbm, 17, rfl⟩
abbrev main_v15 : Ref sig .tc := ⟨.hbm, 18, rfl⟩
abbrev main_v16 : Ref sig .tc := ⟨.hbm, 19, rfl⟩
abbrev main_c_1 : Ref sig .tc := ⟨.hbm, 20, rfl⟩
abbrev main_v17 : Ref sig .tc := ⟨.hbm, 21, rfl⟩
abbrev main_v18 : Ref sig .tc := ⟨.hbm, 22, rfl⟩
abbrev main_v19 : Ref sig .tc := ⟨.hbm, 23, rfl⟩
abbrev main_v20 : Ref sig .tc := ⟨.hbm, 24, rfl⟩

abbrev nD : Nat := 1
abbrev τ : Topo := Topo.v7x

variable {F : FTy → Type} [BitOps F]
-- ==== Proof.WordsValue.lean ====
/- The words call: what one grid point writes, entry by entry. The call reads, of each sequence, a 64 by 2048 tile of bytes
   (channel by token), takes each four consecutive rows as one 32-bit word, and stores the 16 by 2048 words in pieces of
   8 by 128. -/
module

public import proofs.«01_k».proof.Proof.Gen.Words.Value
public import Idealize.ShloMosaic.Lib.Pointwise
public import Idealize.ShloMosaic.Lib.BitcastPair

@[expose] public section

noncomputable section

namespace Cert.Words.Model

open Idealize.ShloMosaic Idealize.ShloMosaic.Tactic Idealize.ShloMosaic.TcCoe Idealize.SL.Sem Cert.Words.Gen

/-- The word of four bytes, the first lowest. -/
def word (b : Fin 4 → BitVec 8) : BitVec 32 :=
  (b 0).setWidth 32 ||| (b 1).setWidth 32 <<< 8 ||| (b 2).setWidth 32 <<< 16 ||| (b 3).setWidth 32 <<< 24

/-- Bit `i` of the word of four bytes is bit `i % 8` of byte `i / 8`. -/
theorem word_bit (b : Fin 4 → BitVec 8) (i : ℕ) (hi : i < 32) :
    (word b).getLsbD i = (b ⟨i / 8, by omega⟩).getLsbD (i % 8) := by
  unfold word
  simp only [BitVec.getLsbD_or, BitVec.getLsbD_shiftLeft, BitVec.getLsbD_setWidth, hi, decide_true, Bool.true_and]
  have hz : ∀ (k : Fin 4) (j : ℕ), 8 ≤ j → (b k).getLsbD j = false := fun k j hj => BitVec.getLsbD_of_ge _ _ hj
  rcases (by omega : i / 8 = 0 ∨ i / 8 = 1 ∨ i / 8 = 2 ∨ i / 8 = 3) with h | h | h | h
  · have e : i % 8 = i := by omega
    simp [h, e, show i < 8 by omega, show i < 16 by omega, show i < 24 by omega, hi]
  · have e : i % 8 = i - 8 := by omega
    simp [h, e, hz 0 i (by omega), show ¬ i < 8 by omega, show i < 16 by omega, show i < 24 by omega, show i - 8 < 32 by omega]
  · have e : i % 8 = i - 16 := by omega
    simp [h, e, hz 0 i (by omega), hz 1 (i - 8) (by omega), show ¬ i < 16 by omega, show i < 24 by omega, show i - 16 < 32 by omega]
  · have e : i % 8 = i - 24 := by omega
    simp [h, e, hz 0 i (by omega), hz 1 (i - 8) (by omega), hz 2 (i - 16) (by omega), show ¬ i < 24 by omega, show i - 24 < 32 by omega]

/-- Bytes read at thirty-two bits: row `r` of a column is the word of source rows `4 r` to `4 r + 3`. -/
theorem bitcast_8_32 {s t : Shape} (x : s.Idx → BitVec 8) (h : s.Bitcasts 8 t 32) (j : t.Idx) :
    bitcast t 32 x h j = word fun i => x (h.srcIdx j (4 * t.row j + i.val) (fun a ha => by
        have := h.pos_lt j (8 * i.val) (by omega) a ha; omega)) := by
  apply BitVec.eq_of_getLsbD_eq
  intro q hq
  rw [word_bit _ q hq, bitcast_getLsbD x h j q hq (by decide)]
  have ed : (t.row j * 32 + q) / 8 = 4 * t.row j + q / 8 := by omega
  have em : (t.row j * 32 + q) % 8 = q % 8 := by omega
  rw [h.srcIdx_congr j ed _ (fun a ha => by have := h.pos_lt j q hq a ha; omega), em]

/-- A tile's words: word `(r, l)` is made of rows `4 r` to `4 r + 3` of column `l`. -/
theorem words_apply (v : Vec Bits S1x64x2048 .fp8e4m3) (r : Fin 16) (l : Fin 2048) :
    k0_pay2 (F := Bits) v (ix2 r l)
      = word fun i => BitOps.toBits (F := Bits) (φ := .fp8e4m3) (v (ix3 0 ⟨4 * r.val + i.val, by omega⟩ l)) := by
  unfold k0_pay2
  rw [bitcast_8_32]
  refine congrArg word (funext fun i => ?_)
  have hr : S16x2048.row (ix2 r l) = r.val := rfl
  have e : bitcasts_S64x2048_w8_S16x2048_w32.srcIdx (ix2 r l) (4 * S16x2048.row (ix2 r l) + i.val) (fun a ha => by
      have := bitcasts_S64x2048_w8_S16x2048_w32.pos_lt (ix2 r l) (8 * i.val) (by omega) a ha; omega)
      = (ix2 ⟨4 * r.val + i.val, by omega⟩ l : S64x2048.Idx) := by
    funext a
    apply Fin.ext
    match a with
    | ⟨0, _⟩ => rw [Shape.Bitcasts.srcIdx_row _ _ _ _ _ rfl, hr]; rfl
    | ⟨1, _⟩ => rw [Shape.Bitcasts.srcIdx_other _ _ _ _ _ (by show ¬ (1 + 2 = 2); omega)]; rfl
  rw [e, bitcastToInt_apply, shapeCast_apply _ _ _ (ix3 0 ⟨4 * r.val + i.val, by omega⟩ l)
    (by rw [Shape.rowMajor_val_three, Shape.rowMajor_val_two]; simp [ix3, ix2])]

/-- What a grid point writes at each place of its block: word row `8 h + r` of token `128 t + l`. -/
def block (x : Vec Bits S6x64x2048 .fp8e4m3) : IVec S6x2x16x8x128 32 := fun i =>
  word fun k => BitOps.toBits (F := Bits) (φ := .fp8e4m3)
    (x (ix3 (i 0) ⟨4 * (8 * (i 1).val + (i 3).val) + k.val, by
        have h1 : (i 1).val < 2 := (i 1).isLt
        have h3 : (i 3).val < 8 := (i 3).isLt
        omega⟩ ⟨128 * (i 2).val + (i 4).val, by
        have h2 : (i 2).val < 16 := (i 2).isLt
        have h4 : (i 4).val < 128 := (i 4).isLt
        omega⟩))

/-- A piece cut out of a sequence's words holds the block's entries at its place. -/
theorem piece_apply (x : Vec Bits S6x64x2048 .fp8e4m3) (s h t : ℕ)
    (inl : ∀ a, (![s, 0, 0] : Fin 3 → ℕ) a + S1x64x2048.size a ≤ S6x64x2048.size a)
    (inb : ∀ a, (![s, h, t, 0, 0] : Fin 5 → ℕ) a + S1x1x1x8x128.size a ≤ S6x2x16x8x128.size a)
    (a b : ℕ) (ha : a = 8 * h) (hb : b = 128 * t) (hsl : S16x2048.Slices ![a, b] S8x128) (j : S1x1x1x8x128.Idx) :
    shapeCast S1x1x1x8x128 (extractStridedSlice S8x128 ![a, b]
        (k0_pay2 (F := Bits) (View.ld x (Rect.unit (s := S6x64x2048) ![s, 0, 0] S1x64x2048.size inl))) hsl)
      shapeCasts_S8x128_S1x1x1x8x128 j
      = block x ((Rect.unit (s := S6x2x16x8x128) ![s, h, t, 0, 0] S1x1x1x8x128.size inb).emb j) := by
  subst ha hb
  have hh : h + 1 ≤ 2 := inb 1
  have ht : t + 1 ≤ 16 := inb 2
  have h0 : (j 0).val < 1 := (j 0).isLt
  have h1 : (j 1).val < 1 := (j 1).isLt
  have h2 : (j 2).val < 1 := (j 2).isLt
  have h3 : (j 3).val < 8 := (j 3).isLt
  have h4 : (j 4).val < 128 := (j 4).isLt
  rw [shapeCast_apply _ _ _ (ix2 ⟨(j 3).val, h3⟩ ⟨(j 4).val, h4⟩) (by
    rw [Shape.rowMajor_val_five, Shape.rowMajor_val_two]; simp [ix2]; omega)]
  rw [extractStridedSlice_apply _ _ _ _ (ix2 ⟨8 * h + (j 3).val, by omega⟩ ⟨128 * t + (j 4).val, by omega⟩)
    (fun a => match a with | ⟨0, _⟩ => rfl | ⟨1, _⟩ => rfl)]
  rw [words_apply]
  unfold block
  refine congrArg word (funext fun k => congrArg _ ?_)
  refine congrArg x (funext fun a => Fin.ext ?_)
  match a with
  | ⟨0, _⟩ => show s + 1 * 0 = s + 1 * (j 0).val; omega
  | ⟨1, _⟩ => show 0 + 1 * (4 * (8 * h + (j 3).val) + k.val) = 4 * (8 * (h + 1 * (j 1).val) + (0 + 1 * (j 3).val)) + k.val; omega
  | ⟨2, _⟩ => show 0 + 1 * (128 * t + (j 4).val) = 128 * (t + 1 * (j 2).val) + (0 + 1 * (j 4).val); omega

set_option maxHeartbeats 4000000 in
set_option maxRecDepth 10000 in
/-- The pieces together leave the block. -/
theorem out_eq (x : Vec Bits S6x64x2048 .fp8e4m3) : out0_1 (F := Bits) x = block x := by
  unfold out0_1
  funext y
  refine View.canon_apply_of_pieces (Val := Elt Bits) (e := .i32) (block x) _ ?_ y (by apply cover0_1)
  dsimp only
  repeat' refine List.forall_mem_cons.mpr ⟨fun j => piece_apply x _ _ _ (by decide) (by decide) _ _ (by rfl) (by rfl) (by decide) j, ?_⟩
  exact fun p hp => absurd hp List.not_mem_nil

end Cert.Words.Model

end
-- ==== Proof.WordsEqual.lean ====
/- The words call and its reference, entry by entry over the whole arrays: both hold, at each place, the word of four
   consecutive channels of one token. -/
module

public import proofs.«01_k».proof.Proof.WordsValue
public import proofs.«01_k».proof.Proof.Gen.WordsReference.Run

@[expose] public section

noncomputable section

namespace Cert.Words.Equal

open Idealize.ShloMosaic Idealize.ShloMosaic.Tactic Idealize.ShloMosaic.TcCoe Idealize.SL.Sem Cert.Words.Gen Cert.Words.Model

/-- The packed codes: word row `8 h + r` of token `128 t + l` is made of that token's channels from `4 (8 h + r)` on. -/
def packed (x : Vec Bits S24x2048x64 .fp8e4m3) : IVec S24x2x16x8x128 32 := fun i =>
  word fun k => BitOps.toBits (F := Bits) (φ := .fp8e4m3)
    (x (ix3 (i 0) ⟨128 * (i 2).val + (i 4).val, by
        have h2 : (i 2).val < 16 := (i 2).isLt
        have h4 : (i 4).val < 128 := (i 4).isLt
        omega⟩ ⟨4 * (8 * (i 1).val + (i 3).val) + k.val, by
        have h1 : (i 1).val < 2 := (i 1).isLt
        have h3 : (i 3).val < 8 := (i 3).isLt
        omega⟩))

variable (m : (ℓ : Loc nD τ sig) → Buf (Elt Bits) ℓ) (c : Dev nD)

/-- The codes as the call finds them: channel by token. -/
theorem V_v0 : V m c main_v0 = transpose S24x64x2048 [0, 2, 1] (m ((c : Thread nD τ).loc main_arg0)) transposes_S24x2048x64_S24x64x2048_0_2_1 := by
  show StableHlo.after hostOps0 _ (Proc.devRef .tc main_v0) = _
  after_results

theorem index0 : ∀ t : Fin cfg0.N, win0_0.index t (0 : Fin 3) = t.val ∧ win0_0.index t (1 : Fin 3) = 0 ∧ win0_0.index t (2 : Fin 3) = 0 :=
  (by decide +kernel : ∀ t : Fin grid0.N, _)
theorem index1 : ∀ t : Fin cfg0.N, win0_1.index t (0 : Fin 5) = t.val ∧ win0_1.index t (1 : Fin 5) = 0 ∧ win0_1.index t (2 : Fin 5) = 0
    ∧ win0_1.index t (3 : Fin 5) = 0 ∧ win0_1.index t (4 : Fin 5) = 0 :=
  (by decide +kernel : ∀ t : Fin grid0.N, _)
theorem flush1 : ∀ t : Fin cfg0.N, (cfg0.win 1).flush t = true := (by decide +kernel : ∀ t : Fin grid0.N, win0_1.flush t = true)

theorem lt_four (t : Fin cfg0.N) : t.val < 4 := lt_of_lt_of_eq t.isLt (show cfg0.N = 4 from N_0)

/-- A point's block of codes: six sequences of the argument, channel by token. -/
theorem iblk0 (t : Fin cfg0.N) (s : Fin 6) (r : Fin 64) (l : Fin 2048) :
    (iblk m c 0 t : Vec Bits S6x64x2048 .fp8e4m3) (ix3 s r l)
      = (m ((c : Thread nD τ).loc main_arg0) : Vec Bits S24x2048x64 .fp8e4m3)
          (ix3 ⟨6 * t.val + s.val, by have := lt_four t; omega⟩ l r) := by
  have ht := lt_four t
  obtain ⟨e0, e1, e2⟩ := index0 t
  show V m c main_v0 (((cfg0.win 0).blk t).view.emb (ix3 s r l : S6x64x2048.Idx)) = _
  rw [V_v0]
  refine (congrArg (transpose S24x64x2048 [0, 2, 1] (m ((c : Thread nD τ).loc main_arg0)) transposes_S24x2048x64_S24x64x2048_0_2_1)
    (show _ = ix3 ⟨6 * t.val + s.val, by omega⟩ r l from funext fun a => Fin.ext ?_)).trans ?_
  · match a with
    | ⟨0, _⟩ => show win0_0.index t (0 : Fin 3) * 6 + 1 * s.val = 6 * t.val + s.val; omega
    | ⟨1, _⟩ => show win0_0.index t (1 : Fin 3) * 64 + 1 * r.val = r.val; omega
    | ⟨2, _⟩ => show win0_0.index t (2 : Fin 3) * 2048 + 1 * l.val = l.val; omega
  · exact transpose_apply _ _ _ _ _ (fun b => match b with | ⟨0, _⟩ => rfl | ⟨1, _⟩ => rfl | ⟨2, _⟩ => rfl)

/-- What a point writes back is its block of the packed codes. -/
theorem flushed_eq (t : Fin cfg0.N) :
    (dats m 0 c).flushed 1 t = ((cfg0.win 1).blk t).view.read (Elt Bits) (packed (m ((c : Thread nD τ).loc main_arg0))) := by
  rw [Value.flushed1, out_eq]
  obtain ⟨e0, e1, e2, e3, e4⟩ := index1 t
  have ht := lt_four t
  funext y
  have h0 : (y 0).val < 6 := (y 0).isLt
  have h1 : (y 1).val < 2 := (y 1).isLt
  have h2 : (y 2).val < 16 := (y 2).isLt
  have h3 : (y 3).val < 8 := (y 3).isLt
  have h4 : (y 4).val < 128 := (y 4).isLt
  show block (iblk m c 0 t) y = packed _ (((cfg0.win 1).blk t).view.emb y)
  unfold block packed
  refine congrArg word (funext fun k => congrArg _ ?_)
  refine (iblk0 m c t ⟨(y 0).val, h0⟩ ⟨4 * (8 * (y 1).val + (y 3).val) + k.val, by omega⟩ ⟨128 * (y 2).val + (y 4).val, by omega⟩).trans ?_
  refine congrArg (m ((c : Thread nD τ).loc main_arg0)) (funext fun a => Fin.ext ?_)
  match a with
  | ⟨0, _⟩ => show 6 * t.val + (y 0).val = win0_1.index t (0 : Fin 5) * 6 + 1 * (y 0).val; omega
  | ⟨1, _⟩ =>
    show 128 * (y 2).val + (y 4).val
      = 128 * (win0_1.index t (2 : Fin 5) * 16 + 1 * (y 2).val) + (win0_1.index t (4 : Fin 5) * 128 + 1 * (y 4).val)
    omega
  | ⟨2, _⟩ =>
    show 4 * (8 * (y 1).val + (y 3).val) + k.val
      = 4 * (8 * (win0_1.index t (1 : Fin 5) * 2 + 1 * (y 1).val) + (win0_1.index t (3 : Fin 5) * 8 + 1 * (y 3).val)) + k.val
    omega

/-- Every entry is in the block of the point of its sequence. -/
theorem covered (i : S24x2x16x8x128.Idx) : ∃ t : Fin cfg0.N, (cfg0.win 1).flush t = true ∧ i ∈ ((cfg0.win 1).blk t).view.set := by
  have h0 : (i 0).val < 24 := (i 0).isLt
  have h1 : (i 1).val < 2 := (i 1).isLt
  have h2 : (i 2).val < 16 := (i 2).isLt
  have h3 : (i 3).val < 8 := (i 3).isLt
  have h4 : (i 4).val < 128 := (i 4).isLt
  have hN : cfg0.N = 4 := N_0
  obtain ⟨t, ht⟩ : ∃ t : Fin cfg0.N, t.val = (i 0).val / 6 := ⟨⟨(i 0).val / 6, by omega⟩, rfl⟩
  refine ⟨t, flush1 t, ?_⟩
  obtain ⟨e0, e1, e2, e3, e4⟩ := index1 t
  show i ∈ ((View.whole main_v1).slice (win0_1.rect t)).set
  rw [View.set_slice_whole, Rect.mem_set_unit]
  intro a
  match a with
  | ⟨0, _⟩ => show win0_1.index t (0 : Fin 5) * 6 ≤ (i 0).val ∧ (i 0).val < win0_1.index t (0 : Fin 5) * 6 + 6; omega
  | ⟨1, _⟩ => show win0_1.index t (1 : Fin 5) * 2 ≤ (i 1).val ∧ (i 1).val < win0_1.index t (1 : Fin 5) * 2 + 2; omega
  | ⟨2, _⟩ => show win0_1.index t (2 : Fin 5) * 16 ≤ (i 2).val ∧ (i 2).val < win0_1.index t (2 : Fin 5) * 16 + 16; omega
  | ⟨3, _⟩ => show win0_1.index t (3 : Fin 5) * 8 ≤ (i 3).val ∧ (i 3).val < win0_1.index t (3 : Fin 5) * 8 + 8; omega
  | ⟨4, _⟩ => show win0_1.index t (4 : Fin 5) * 128 ≤ (i 4).val ∧ (i 4).val < win0_1.index t (4 : Fin 5) * 128 + 128; omega

/-- The call's result. -/
theorem final : (dats m 0 c).arrAt 1 cfg0.N = packed (m ((c : Thread nD τ).loc main_arg0)) :=
  (dats m 0 c).arrAt_eq_of_cover 1 _ (fun t _ => flushed_eq m c t) covered

end Cert.Words.Equal

namespace Cert.WordsReference.Equal

open Idealize.ShloMosaic Idealize.ShloMosaic.Tactic Idealize.ShloMosaic.TcCoe Idealize.SL.Sem Cert.WordsReference.Gen
open Cert.Words.Model (word)

/-- Every group of four channels as bytes, widened, and the bytes at one offset of the groups. -/
def bytes (x : FVec Bits S24x2048x64 .fp8e4m3) : IVec S24x16x128x2x8x4 32 :=
  shapeCast S24x16x128x2x8x4 (extui 32 (bitcastToInt x) natLt_8_32) shapeCasts_S24x2048x64_S24x16x128x2x8x4
def byte (x : FVec Bits S24x2048x64 .fp8e4m3) (off : Fin 6 → ℕ) (hs : S24x16x128x2x8x4.Slices off S24x16x128x2x8x1) :
    IVec S24x16x128x2x8 32 :=
  shapeCast S24x16x128x2x8 (extractStridedSlice S24x16x128x2x8x1 off (bytes x) hs) shapeCasts_S24x16x128x2x8x1_S24x16x128x2x8

theorem byte_apply (x : FVec Bits S24x2048x64 .fp8e4m3) (k : Fin 4) (off : Fin 6 → ℕ) (hk : off = ![0, 0, 0, 0, 0, k.val])
    (hs : S24x16x128x2x8x4.Slices off S24x16x128x2x8x1) (b : Fin 24) (t : Fin 16) (l : Fin 128) (h : Fin 2) (r : Fin 8) :
    byte x off hs (ix5 b t l h r)
      = (BitOps.toBits (F := Bits) (φ := .fp8e4m3)
          (x (ix3 b ⟨128 * t.val + l.val, by omega⟩ ⟨4 * (8 * h.val + r.val) + k.val, by omega⟩))).setWidth 32 := by
  subst hk
  unfold byte bytes
  rw [shapeCast_apply _ _ _ (ix6 b t l h r 0) (by rw [Shape.rowMajor_val_six, Shape.rowMajor_val_five]; simp [ix6, ix5]),
    extractStridedSlice_apply _ _ _ _ (ix6 b t l h r k) (fun a => match a with
      | ⟨0, _⟩ => (Nat.zero_add _).symm | ⟨1, _⟩ => (Nat.zero_add _).symm | ⟨2, _⟩ => (Nat.zero_add _).symm
      | ⟨3, _⟩ => (Nat.zero_add _).symm | ⟨4, _⟩ => (Nat.zero_add _).symm | ⟨5, _⟩ => rfl),
    shapeCast_apply _ _ _ (ix3 b ⟨128 * t.val + l.val, by omega⟩ ⟨4 * (8 * h.val + r.val) + k.val, by omega⟩)
      (by rw [Shape.rowMajor_val_six, Shape.rowMajor_val_three]; simp [ix6, ix3]; omega)]
  rfl

/-- A left shift by a constant below the width. -/
theorem shl_apply (x : IVec S24x16x128x2x8 32) (n : BitVec 32) (hn : n.toNat < 32) (i : S24x16x128x2x8.Idx) :
    Host.shli x (broadcastInDim S24x16x128x2x8 ![] bcast_S_S24x16x128x2x8 (constantI S_ 32 n)) i = x i <<< n.toNat := by
  show (if n.toNat < 32 then x i <<< n else _) = _
  rw [if_pos hn]; rfl

/-- The reference's result as its operations give it. -/
def joined (x : FVec Bits S24x2048x64 .fp8e4m3) : IVec S24x2x16x8x128 32 :=
  transpose S24x2x16x8x128 [0, 3, 1, 4, 2]
    (ori (ori (ori (byte x _ slices_S24x16x128x2x8x4_S24x16x128x2x8x1_0_0_0_0_0_0)
        (Host.shli (byte x _ slices_S24x16x128x2x8x4_S24x16x128x2x8x1_0_0_0_0_0_1)
          (broadcastInDim S24x16x128x2x8 ![] bcast_S_S24x16x128x2x8 (constantI S_ 32 8#32))))
        (Host.shli (byte x _ slices_S24x16x128x2x8x4_S24x16x128x2x8x1_0_0_0_0_0_2)
          (broadcastInDim S24x16x128x2x8 ![] bcast_S_S24x16x128x2x8 (constantI S_ 32 16#32))))
        (Host.shli (byte x _ slices_S24x16x128x2x8x4_S24x16x128x2x8x1_0_0_0_0_0_3)
          (broadcastInDim S24x16x128x2x8 ![] bcast_S_S24x16x128x2x8 (constantI S_ 32 24#32))))
    transposes_S24x16x128x2x8_S24x2x16x8x128_0_3_1_4_2

theorem joined_apply (x : FVec Bits S24x2048x64 .fp8e4m3) (b : Fin 24) (h : Fin 2) (t : Fin 16) (r : Fin 8) (l : Fin 128) :
    joined x (ix5 b h t r l) = Cert.Words.Equal.packed x (ix5 b h t r l) := by
  unfold joined
  rw [transpose_apply _ _ _ _ (ix5 b t l h r) (fun b => match b with
    | ⟨0, _⟩ => rfl | ⟨1, _⟩ => rfl | ⟨2, _⟩ => rfl | ⟨3, _⟩ => rfl | ⟨4, _⟩ => rfl)]
  rw [ori_apply, ori_apply, ori_apply, shl_apply _ _ (by decide), shl_apply _ _ (by decide), shl_apply _ _ (by decide),
    byte_apply x 0 ![0, 0, 0, 0, 0, 0] rfl, byte_apply x 1 ![0, 0, 0, 0, 0, 1] rfl, byte_apply x 2 ![0, 0, 0, 0, 0, 2] rfl, byte_apply x 3 ![0, 0, 0, 0, 0, 3] rfl]
  rfl

theorem joined_eq (x : FVec Bits S24x2048x64 .fp8e4m3) : joined x = Cert.Words.Equal.packed x := by
  funext i
  rw [eq_ix5 i]
  exact joined_apply x _ _ _ _ _

/-- The reference run with its result named. -/
theorem run (m : (ℓ : Loc nD τ sig) → Buf (Elt Bits) ℓ) (ρ : Dev nD → PrngReg) :
    θ_run defs (onTc (τ := τ) (main (F := Bits))) ⟨m, fun _ => 0, ρ⟩ fun r => ∀ c : Dev nD,
      r.2.mem ((c.tc : Thread nD τ).loc main_v20) = joined (m ((c.tc : Thread nD τ).loc main_arg0))
      ∧ r.2.mem ((c.tc : Thread nD τ).loc main_arg0) = m ((c.tc : Thread nD τ).loc main_arg0) :=
  Value.run m ρ

/-- The reference runs, leaves its argument as it was, and uses no semaphore. -/
theorem frame {F : FTy → Type} [BitOps F] (m : (ℓ : Loc nD τ sig) → Buf (Elt F) ℓ) (ρ : Dev nD → PrngReg) :
    θ_run defs (onTc (τ := τ) (main (F := F))) ⟨m, fun _ => 0, ρ⟩ fun r =>
      (∀ c : Dev nD, r.2.mem ((c.tc : Thread nD τ).loc main_arg0) = m ((c.tc : Thread nD τ).loc main_arg0)) ∧ r.2.sem = fun _ => 0 :=
  (θ_run defs _ _).mono (fun r h => ⟨fun c => (h c).2, sem_eq_zero_of_no_sems rfl _⟩) (Value.run m ρ)

end Cert.WordsReference.Equal

end
-- ==== Proof.Model.lean ====
/- The block the kernel computes at one point of its grid, written once with its parts named: the exponent search,
   the packed exponent words, the scale words a neighbour index picks, the four chunks' columns, the seven products
   and the quantiser. The theorems of RunEq.lean say the printed runs ARE these. -/
module

public import proofs.«01_k».proof.Proof.Gen.KernelIdeal.Skeleton

@[expose] public section

noncomputable section

namespace Cert.KernelIdeal.Model

open Idealize.ShloMosaic Idealize.SL.Sem Cert.KernelIdeal.Gen

variable {F : FTy → Type} [FloatOps F]

/-- One step of the exponent search, at every entry: raise the field by `b` where the power of two it names is still
    at most `q`. -/
def vstep {s : Shape} (q : FVec F s .f32) (e : IVec s 32) (b : BitVec 32) : IVec s 32 :=
  select (cmpf .oge q (bitcastToFloat .f32 (shli (addi e (broadcast s b)) (broadcast s 23#32))))
    (addi e (broadcast s b)) e

/-- The exponent field of every entry of `q`, by eight steps. -/
def vfield {s : Shape} (q : FVec F s .f32) : IVec s 32 :=
  vstep q (vstep q (vstep q (vstep q (vstep q (vstep q (vstep q (vstep q (broadcast s 0#32)
    128#32) 64#32) 32#32) 16#32) 8#32) 4#32) 2#32) 1#32

/-- The exponent fields of the scales. -/
def expo (x : Vec F S8x2048 .f32) : IVec S8x2048 32 := andi (vfield x) (broadcast S8x2048 255#32)

/-- Four bytes in one word, the first lowest. -/
def pack (a b c d : IVec S8x128 32) : IVec S8x128 32 :=
  shapeCast S8x128 (ori (ori (ori a (shli b (broadcast S8x128 8#32))) (shli c (broadcast S8x128 16#32)))
    (shli d (broadcast S8x128 24#32))) shapeCasts_S8x128_S8x128

/-- The packed exponents of tokens 0 to 511. -/
def pack0 (x : Vec F S8x2048 .f32) : IVec S8x128 32 :=
  pack (extractStridedSlice S8x128 ![0, 0] (expo x) slices_S8x2048_o0_0_S8x128)
    (extractStridedSlice S8x128 ![0, 128] (expo x) slices_S8x2048_o0_128_S8x128)
    (extractStridedSlice S8x128 ![0, 256] (expo x) slices_S8x2048_o0_256_S8x128)
    (extractStridedSlice S8x128 ![0, 384] (expo x) slices_S8x2048_o0_384_S8x128)

/-- The packed exponents of tokens 512 to 1023. -/
def pack1 (x : Vec F S8x2048 .f32) : IVec S8x128 32 :=
  pack (extractStridedSlice S8x128 ![0, 512] (expo x) slices_S8x2048_o0_512_S8x128)
    (extractStridedSlice S8x128 ![0, 640] (expo x) slices_S8x2048_o0_640_S8x128)
    (extractStridedSlice S8x128 ![0, 768] (expo x) slices_S8x2048_o0_768_S8x128)
    (extractStridedSlice S8x128 ![0, 896] (expo x) slices_S8x2048_o0_896_S8x128)

/-- The packed exponents of tokens 1024 to 1535. -/
def pack2 (x : Vec F S8x2048 .f32) : IVec S8x128 32 :=
  pack (extractStridedSlice S8x128 ![0, 1024] (expo x) slices_S8x2048_o0_1024_S8x128)
    (extractStridedSlice S8x128 ![0, 1152] (expo x) slices_S8x2048_o0_1152_S8x128)
    (extractStridedSlice S8x128 ![0, 1280] (expo x) slices_S8x2048_o0_1280_S8x128)
    (extractStridedSlice S8x128 ![0, 1408] (expo x) slices_S8x2048_o0_1408_S8x128)

/-- The packed exponents of tokens 1536 to 2047. -/
def pack3 (x : Vec F S8x2048 .f32) : IVec S8x128 32 :=
  pack (extractStridedSlice S8x128 ![0, 1536] (expo x) slices_S8x2048_o0_1536_S8x128)
    (extractStridedSlice S8x128 ![0, 1664] (expo x) slices_S8x2048_o0_1664_S8x128)
    (extractStridedSlice S8x128 ![0, 1792] (expo x) slices_S8x2048_o0_1792_S8x128)
    (extractStridedSlice S8x128 ![0, 1920] (expo x) slices_S8x2048_o0_1920_S8x128)

/-- A neighbour index's lane (its value modulo 128), counted from the front. -/
def lane (idx : IVec S8x128 32) : IVec S8x128 32 :=
  shapeCast S8x128 (shapeCast S8x128x1
    (select (cmpi .slt (andi idx (broadcast S8x128 127#32)) (broadcast S8x128 0#32))
      (addi (andi idx (broadcast S8x128 127#32)) (broadcast S8x128 128#32)) (andi idx (broadcast S8x128 127#32)))
    shapeCasts_S8x128_S8x128x1) shapeCasts_S8x128x1_S8x128

/-- The packed word holding a neighbour's exponent. -/
def pick (idx p0 p1 p2 p3 : IVec S8x128 32) : IVec S8x128 32 :=
  select (cmpi .eq (shrsi idx (broadcast S8x128 9#32)) (broadcast S8x128 3#32)) (dynamicGather 1 p3 (lane idx))
   (select (cmpi .eq (shrsi idx (broadcast S8x128 9#32)) (broadcast S8x128 2#32)) (dynamicGather 1 p2 (lane idx))
    (select (cmpi .eq (shrsi idx (broadcast S8x128 9#32)) (broadcast S8x128 1#32)) (dynamicGather 1 p1 (lane idx))
     (select (cmpi .eq (shrsi idx (broadcast S8x128 9#32)) (broadcast S8x128 0#32)) (dynamicGather 1 p0 (lane idx))
      (broadcast S8x128 0#32))))

/-- The scale words of one neighbour position: the neighbour's exponent as a bf16 pattern in each half of the word,
    zero where there is no neighbour. -/
def scaleWord (v : Vec F S1x8x128 .i32) (p0 p1 p2 p3 : IVec S8x128 32) : IVec S1x8x128 32 :=
  let idx : IVec S8x128 32 := shapeCast S8x128 v shapeCasts_S1x8x128_S8x128
  shapeCast S1x8x128
    (muli (select (cmpi .sge idx (broadcast S8x128 0#32))
        (andi (shrui (pick idx p0 p1 p2 p3)
          (andi (shrsi idx (broadcast S8x128 4#32)) (broadcast S8x128 24#32))) (broadcast S8x128 255#32))
        (broadcast S8x128 0#32)) (broadcast S8x128 8388736#32)) shapeCasts_S8x128_S1x8x128

/-- A row of scale words as bf16 values, repeated over sixteen rows. -/
def scaleBits (v : Vec F S1x1x128 .i32) : FVec F S16x128 .bf16 :=
  bitcastToFloat .bf16 (bitcast S16x128 16 (broadcastTo S8x128
    (shapeCast S1x128 (shapeCast S1x128 v shapeCasts_S1x1x128_S1x128) shapeCasts_S1x128_S1x128)
    broadcasts_S1x128_S8x128) bitcasts_S8x128_w32_S16x128_w16)

/-- The fp8 values in a tile of code words. -/
def codes (v : Vec F S1x1x1x8x128 .i32) : FVec F S32x128 .bf16 :=
  extf .bf16 (bitcastToFloat .fp8e4m3 (bitcast S32x128 8 (shapeCast S8x128 v shapeCasts_S1x1x1x8x128_S8x128)
    bitcasts_S8x128_w32_S32x128_w8)) bitsLt_fp8e4m3_bf16

/-- The first sixteen channels of a tile, scaled. -/
def lo (s : Vec F S1x1x128 .i32) (g : Vec F S1x1x1x8x128 .i32) : FVec F S16x128 .bf16 :=
  mulf (extractStridedSlice S16x128 ![0, 0] (codes g) slices_S32x128_o0_0_S16x128) (scaleBits s)

/-- The last sixteen channels of a tile, scaled. -/
def hi (s : Vec F S1x1x128 .i32) (g : Vec F S1x1x1x8x128 .i32) : FVec F S16x128 .bf16 :=
  mulf (extractStridedSlice S16x128 ![16, 0] (codes g) slices_S32x128_o16_0_S16x128) (scaleBits s)

/-- Four neighbours' sixty-four channels each, one below another. -/
def col4 (s0 s1 s2 s3 : Vec F S1x1x128 .i32) (g0 g1 g2 g3 g4 g5 g6 g7 : Vec F S1x1x1x8x128 .i32) :
    FVec F S256x128 .bf16 :=
  concatenate S256x128 0 [⟨S16x128, lo s0 g0⟩, ⟨S16x128, hi s0 g0⟩, ⟨S16x128, lo s0 g1⟩, ⟨S16x128, hi s0 g1⟩,
    ⟨S16x128, lo s1 g2⟩, ⟨S16x128, hi s1 g2⟩, ⟨S16x128, lo s1 g3⟩, ⟨S16x128, hi s1 g3⟩,
    ⟨S16x128, lo s2 g4⟩, ⟨S16x128, hi s2 g4⟩, ⟨S16x128, lo s2 g5⟩, ⟨S16x128, hi s2 g5⟩,
    ⟨S16x128, lo s3 g6⟩, ⟨S16x128, hi s3 g6⟩, ⟨S16x128, lo s3 g7⟩, ⟨S16x128, hi s3 g7⟩]
    concatenates_S16x128_S16x128_S16x128_S16x128_S16x128_S16x128_S16x128_S16x128_S16x128_S16x128_S16x128_S16x128_S16x128_S16x128_S16x128_S16x128_S256x128_d0

/-- The last three neighbours' channels. -/
def col3 (s0 s1 s2 : Vec F S1x1x128 .i32) (g0 g1 g2 g3 g4 g5 : Vec F S1x1x1x8x128 .i32) : FVec F S192x128 .bf16 :=
  concatenate S192x128 0 [⟨S16x128, lo s0 g0⟩, ⟨S16x128, hi s0 g0⟩, ⟨S16x128, lo s0 g1⟩, ⟨S16x128, hi s0 g1⟩,
    ⟨S16x128, lo s1 g2⟩, ⟨S16x128, hi s1 g2⟩, ⟨S16x128, lo s1 g3⟩, ⟨S16x128, hi s1 g3⟩,
    ⟨S16x128, lo s2 g4⟩, ⟨S16x128, hi s2 g4⟩, ⟨S16x128, lo s2 g5⟩, ⟨S16x128, hi s2 g5⟩]
    concatenates_S16x128_S16x128_S16x128_S16x128_S16x128_S16x128_S16x128_S16x128_S16x128_S16x128_S16x128_S16x128_S192x128_d0

/-- The product of one block of weights with two sequences' columns, added to what is there. -/
def madd4 (a : FVec F S80x256 .f32) (w : Vec F S80x256 .bf16) (u v : FVec F S256x128 .bf16) : FVec F S80x256 .f32 :=
  addf a (matmul dot_S80x256_S256x256_S80x256_1_0_0_1_n_n none (shapeCast S80x256 w shapeCasts_S80x256_S80x256)
    (concatenate S256x256 1 [⟨S256x128, u⟩, ⟨S256x128, v⟩] concatenates_S256x128_S256x128_S256x256_d1)
    (constant S80x256 .f32 0x00000000#32))

/-- The same for the last block. -/
def madd3 (a : FVec F S80x256 .f32) (w : Vec F S80x192 .bf16) (u v : FVec F S192x128 .bf16) : FVec F S80x256 .f32 :=
  addf a (matmul dot_S80x192_S192x256_S80x256_1_0_0_1_n_n none (shapeCast S80x192 w shapeCasts_S80x192_S80x192)
    (concatenate S192x256 1 [⟨S192x128, u⟩, ⟨S192x128, v⟩] concatenates_S192x128_S192x128_S192x256_d1)
    (constant S80x256 .f32 0x00000000#32))

/-- The columns of neighbours `4 j` to `4 j + 3` of one sequence. -/
def chunk4 (j : ℕ) (hj : 4 * j + 3 < 27) (sc : Fin 27 → Vec F S1x1x128 .i32) (gw : Fin 54 → Vec F S1x1x1x8x128 .i32) :
    FVec F S256x128 .bf16 :=
  col4 (sc ⟨4 * j, by omega⟩) (sc ⟨4 * j + 1, by omega⟩) (sc ⟨4 * j + 2, by omega⟩) (sc ⟨4 * j + 3, by omega⟩)
    (gw ⟨8 * j, by omega⟩) (gw ⟨8 * j + 1, by omega⟩) (gw ⟨8 * j + 2, by omega⟩) (gw ⟨8 * j + 3, by omega⟩)
    (gw ⟨8 * j + 4, by omega⟩) (gw ⟨8 * j + 5, by omega⟩) (gw ⟨8 * j + 6, by omega⟩) (gw ⟨8 * j + 7, by omega⟩)

/-- The columns of neighbours 24, 25, 26 of one sequence. -/
def chunk3 (sc : Fin 27 → Vec F S1x1x128 .i32) (gw : Fin 54 → Vec F S1x1x1x8x128 .i32) : FVec F S192x128 .bf16 :=
  col3 (sc 24) (sc 25) (sc 26) (gw 48) (gw 49) (gw 50) (gw 51) (gw 52) (gw 53)

/-- The whole product for two sequences side by side. -/
def accum (sa sb : Fin 27 → Vec F S1x1x128 .i32) (ga gb : Fin 54 → Vec F S1x1x1x8x128 .i32)
    (w : Fin 6 → Vec F S80x256 .bf16) (w6 : Vec F S80x192 .bf16) : FVec F S80x256 .f32 :=
  madd3 (madd4 (madd4 (madd4 (madd4 (madd4 (madd4 (broadcast S80x256 (Scalar.ofBits .f32 0x00000000#32))
    (w 0) (chunk4 0 (by omega) sa ga) (chunk4 0 (by omega) sb gb))
    (w 1) (chunk4 1 (by omega) sa ga) (chunk4 1 (by omega) sb gb))
    (w 2) (chunk4 2 (by omega) sa ga) (chunk4 2 (by omega) sb gb))
    (w 3) (chunk4 3 (by omega) sa ga) (chunk4 3 (by omega) sb gb))
    (w 4) (chunk4 4 (by omega) sa ga) (chunk4 4 (by omega) sb gb))
    (w 5) (chunk4 5 (by omega) sa ga) (chunk4 5 (by omega) sb gb))
    w6 (chunk3 sa ga) (chunk3 sb gb)

/-- The left sequence's half of a product. -/
def left (a : FVec F S80x256 .f32) : FVec F S80x128 .f32 :=
  extractStridedSlice S80x128 ![0, 0] a slices_S80x256_o0_0_S80x128

/-- The right sequence's half of a product. -/
def right (a : FVec F S80x256 .f32) : FVec F S80x128 .f32 :=
  extractStridedSlice S80x128 ![0, 128] a slices_S80x256_o0_128_S80x128

/-- Scaled, biased and cut at zero. -/
def relu (a : FVec F S80x128 .f32) (ws b : Vec F S80x128 .f32) : FVec F S80x128 .f32 :=
  maximumf (addf (mulf a (shapeCast S80x128 ws shapeCasts_S80x128_S80x128))
    (shapeCast S80x128 b shapeCasts_S80x128_S80x128)) (broadcast S80x128 (Scalar.ofBits .f32 0x00000000#32))

/-- The largest entry of each column. -/
def amax (y : FVec F S80x128 .f32) : FVec F S1x128 .f32 :=
  shapeCast S1x128 (multiReduction .maximumf [0] S128 y 0xFF800000#32 reduces_S80x128_S128 (.inl rfl) rfl)
    shapeCasts_S128_S1x128

/-- The exponent field of each column's scale. -/
def expoOf (m : FVec F S1x128 .f32) : IVec S1x128 32 :=
  select (cmpf .oeq m (broadcast S1x128 (Scalar.ofBits .f32 0x00000000#32))) (broadcast S1x128 127#32)
    (addi (vfield (mulf m (broadcast S1x128 (Scalar.ofBits .f32 0x3B124925#32)))) (broadcast S1x128 1#32))

/-- Each column's scale. -/
def scaleOut (y : FVec F S80x128 .f32) : FVec F S1x128 .f32 :=
  bitcastToFloat .f32 (shli (expoOf (amax y)) (broadcast S1x128 23#32))

/-- The quantised entries. -/
def quant (y : FVec F S80x128 .f32) : FVec F S1x80x128 .fp8e4m3 :=
  shapeCast S1x80x128 (truncf .fp8e4m3
    (minimumf (broadcast S80x128 (Scalar.ofBits .f32 0x43E00000#32))
      (maximumf (broadcast S80x128 (Scalar.ofBits .f32 0xC3E00000#32))
        (mulf y (broadcastTo S80x128 (bitcastToFloat .f32
          (shli (subi (broadcast S1x128 254#32) (expoOf (amax y))) (broadcast S1x128 23#32)))
          broadcasts_S1x128_S80x128)))) bitsLt_fp8e4m3_f32) shapeCasts_S80x128_S1x80x128

end Cert.KernelIdeal.Model
-- ==== Proof.Columns.lean ====
/- One entry of the columns a point of the grid multiplies by the weights: the value of one byte of the gathered code
   words times the value of one half of a scale word. -/
module

public import proofs.«01_k».proof.Proof.Model
public import Idealize.ShloMosaic.Lib.Tactic
public import Idealize.ShloMosaic.Lib.BitcastPair
public import Idealize.ShloMosaic.Lib.MatmulPlain
public import Idealize.ShloMosaic.Lib.Pointwise.Tactic
public import Idealize.ShloMosaic.Lib.Pipeline.Value

@[expose] public section

noncomputable section

namespace Cert.KernelIdeal.Model

open Idealize.ShloMosaic Idealize.ShloMosaic.Tactic Idealize.SL.Sem Cert.KernelIdeal.Gen

/-- Thirty-two-bit words read at eight bits: result row `4 r + i` of a column is byte `i` of source row `r`. -/
theorem bitcast_32_8 {s t : Shape} (x : s.Idx → BitVec 32) (h : s.Bitcasts 32 t 8) (j : t.Idx) :
    bitcast t 8 x h j = (x (h.srcIdx j (t.row j / 4) (fun a ha => by
        have := h.pos_lt j 0 (by decide) a ha; omega))).extractLsb' (8 * (t.row j % 4)) 8 := by
  apply BitVec.eq_of_getLsbD_eq
  intro i hi
  rw [bitcast_getLsbD x h j i hi (by decide), BitVec.getLsbD_extractLsb']
  have ep : (t.row j * 8 + i) / 32 = t.row j / 4 := by omega
  have eq : (t.row j * 8 + i) % 32 = 8 * (t.row j % 4) + i := by omega
  rw [h.srcIdx_congr j ep _ (fun a ha => by have := h.pos_lt j 0 (by decide) a ha; omega), eq]
  simp [hi]

/-- A row of scale words as values: row `r` takes half `r % 2` of the word. -/
theorem scaleBits_apply (v : Vec Ideal S1x1x128 .i32) (r : Fin 16) (l : Fin 128) :
    scaleBits (F := Ideal) v (ix2 r l) = Ideal.ofBits .bf16 ((v (ix3 0 0 l)).extractLsb' (16 * (r.val % 2)) 16) := by
  unfold scaleBits
  rw [bitcastToFloat_apply, bitcast_32_16]
  have hr : S16x128.row (ix2 r l) = r.val := rfl
  have e : bitcasts_S8x128_w32_S16x128_w16.srcIdx (ix2 r l) (S16x128.row (ix2 r l) / 2) (fun a ha => by
      have := bitcasts_S8x128_w32_S16x128_w16.pos_lt (ix2 r l) 0 (by decide) a ha; omega)
      = (ix2 ⟨r.val / 2, by omega⟩ l : S8x128.Idx) := by
    funext a
    apply Fin.ext
    match a with
    | ⟨0, _⟩ => rw [Shape.Bitcasts.srcIdx_row _ _ _ _ _ rfl, hr]; rfl
    | ⟨1, _⟩ => rw [Shape.Bitcasts.srcIdx_other _ _ _ _ _ (by show ¬ (1 + 2 = 2); omega)]; rfl
  rw [e, hr, broadcastTo_apply _ _ _ (ix2 0 l) (fun a => match a with | ⟨0, _⟩ => rfl | ⟨1, _⟩ => rfl),
    shapeCast_apply _ _ _ (ix2 0 l) rfl, shapeCast_apply _ _ _ (ix3 0 0 l)
    (by rw [Shape.rowMajor_val_three, Shape.rowMajor_val_two]; simp [ix3, ix2])]
  rfl

/-- A tile of code words as values: row `r` takes byte `r % 4` of word row `r / 4`. -/
theorem codes_apply (v : Vec Ideal S1x1x1x8x128 .i32) (r : Fin 32) (l : Fin 128) :
    codes (F := Ideal) v (ix2 r l)
      = Ideal.ofBits .fp8e4m3 ((v (ix5 0 0 0 ⟨r.val / 4, by omega⟩ l)).extractLsb' (8 * (r.val % 4)) 8) := by
  unfold codes
  rw [extf_apply]
  rw [bitcastToFloat_apply, bitcast_32_8]
  have hr : S32x128.row (ix2 r l) = r.val := rfl
  have e : bitcasts_S8x128_w32_S32x128_w8.srcIdx (ix2 r l) (S32x128.row (ix2 r l) / 4) (fun a ha => by
      have := bitcasts_S8x128_w32_S32x128_w8.pos_lt (ix2 r l) 0 (by decide) a ha; omega)
      = (ix2 ⟨r.val / 4, by omega⟩ l : S8x128.Idx) := by
    funext a
    apply Fin.ext
    match a with
    | ⟨0, _⟩ => rw [Shape.Bitcasts.srcIdx_row _ _ _ _ _ rfl, hr]; rfl
    | ⟨1, _⟩ => rw [Shape.Bitcasts.srcIdx_other _ _ _ _ _ (by show ¬ (1 + 2 = 2); omega)]; rfl
  rw [e, hr, shapeCast_apply _ _ _ (ix5 0 0 0 ⟨r.val / 4, by omega⟩ l)
    (by rw [Shape.rowMajor_val_five, Shape.rowMajor_val_two]; simp [ix5, ix2])]
  rfl

/-- The value of byte `n` of the thirty-two in one lane of a tile of code words. -/
def codeVal (g : Vec Ideal S1x1x1x8x128 .i32) (n : ℕ) (hn : n < 32) (l : Fin 128) : EReal :=
  Ideal.ofBits .fp8e4m3 ((g (ix5 0 0 0 ⟨n / 4, by omega⟩ l)).extractLsb' (8 * (n % 4)) 8)

/-- The value of one half of a scale word. -/
def scaleVal (s : Vec Ideal S1x1x128 .i32) (n : ℕ) (l : Fin 128) : EReal :=
  Ideal.ofBits .bf16 ((s (ix3 0 0 l)).extractLsb' (16 * (n % 2)) 16)

theorem lo_apply (s : Vec Ideal S1x1x128 .i32) (g : Vec Ideal S1x1x1x8x128 .i32) (r : Fin 16) (l : Fin 128) :
    lo (F := Ideal) s g (ix2 r l) = codeVal g r.val (by omega) l * scaleVal s r.val l := by
  unfold lo
  rw [mulf_apply, scaleBits_apply, extractStridedSlice_apply _ _ _ _ (ix2 ⟨r.val, by omega⟩ l)
    (fun a => match a with | ⟨0, _⟩ => by simp [ix2] | ⟨1, _⟩ => by simp [ix2]), codes_apply]
  rfl

theorem hi_apply (s : Vec Ideal S1x1x128 .i32) (g : Vec Ideal S1x1x1x8x128 .i32) (r : Fin 16) (l : Fin 128) :
    hi (F := Ideal) s g (ix2 r l) = codeVal g (16 + r.val) (by omega) l * scaleVal s (16 + r.val) l := by
  unfold hi
  rw [mulf_apply, scaleBits_apply, extractStridedSlice_apply _ _ _ _ (ix2 ⟨16 + r.val, by omega⟩ l)
    (fun a => match a with | ⟨0, _⟩ => by simp [ix2] | ⟨1, _⟩ => by simp [ix2]), codes_apply]
  unfold scaleVal
  rw [show (16 + r.val) % 2 = r.val % 2 by omega]
  rfl

/-- The sixteen-row pieces of a chunk of four neighbours. -/
def tile (s : Fin 4 → Vec Ideal S1x1x128 .i32) (g : Fin 8 → Vec Ideal S1x1x1x8x128 .i32) (n : Fin 16) :
    FVec Ideal S16x128 .bf16 :=
  if n.val % 2 = 0 then lo (s ⟨n.val / 4, by omega⟩) (g ⟨n.val / 2, by omega⟩)
  else hi (s ⟨n.val / 4, by omega⟩) (g ⟨n.val / 2, by omega⟩)

theorem tile_apply (s : Fin 4 → Vec Ideal S1x1x128 .i32) (g : Fin 8 → Vec Ideal S1x1x1x8x128 .i32) (n : Fin 16)
    (r : Fin 16) (l : Fin 128) (q : ℕ) (hq : q = 16 * n.val + r.val) :
    tile s g n (ix2 r l) = codeVal (g ⟨q / 32, by omega⟩) (q % 32) (by omega) l
      * scaleVal (s ⟨q / 64, by omega⟩) (q % 32) l := by
  unfold tile
  have e1 : q / 32 = n.val / 2 := by omega
  have e2 : q / 64 = n.val / 4 := by omega
  split
  · rw [lo_apply]
    have e3 : q % 32 = r.val := by omega
    simp only [e1, e2, e3]
  · rw [hi_apply]
    have e3 : q % 32 = 16 + r.val := by omega
    simp only [e1, e2, e3]

theorem tiles_concat (s : Fin 4 → Vec Ideal S1x1x128 .i32) (g : Fin 8 → Vec Ideal S1x1x1x8x128 .i32) :
    Shape.Concatenates ((List.ofFn fun n : Fin 16 => (⟨S16x128, tile s g n⟩ : (s : Shape) × (s.Idx → EReal))).map (·.1))
      S256x128 0 := by
  rw [List.map_ofFn]
  exact concatenates_S16x128_S16x128_S16x128_S16x128_S16x128_S16x128_S16x128_S16x128_S16x128_S16x128_S16x128_S16x128_S16x128_S16x128_S16x128_S16x128_S256x128_d0

theorem col4_ofFn (s : Fin 4 → Vec Ideal S1x1x128 .i32) (g : Fin 8 → Vec Ideal S1x1x1x8x128 .i32) :
    col4 (F := Ideal) (s 0) (s 1) (s 2) (s 3) (g 0) (g 1) (g 2) (g 3) (g 4) (g 5) (g 6) (g 7)
      = concatenate S256x128 0 (List.ofFn fun n : Fin 16 => ⟨S16x128, tile s g n⟩) (tiles_concat s g) := by
  sl_kernel_rfl

theorem tiles_concat3 (s : Fin 4 → Vec Ideal S1x1x128 .i32) (g : Fin 8 → Vec Ideal S1x1x1x8x128 .i32) :
    Shape.Concatenates ((List.ofFn fun n : Fin 12 => (⟨S16x128, tile s g ⟨n.val, by omega⟩⟩ : (s : Shape) × (s.Idx → EReal))).map (·.1))
      S192x128 0 := by
  rw [List.map_ofFn]
  exact concatenates_S16x128_S16x128_S16x128_S16x128_S16x128_S16x128_S16x128_S16x128_S16x128_S16x128_S16x128_S16x128_S192x128_d0

theorem col3_ofFn (s : Fin 4 → Vec Ideal S1x1x128 .i32) (g : Fin 8 → Vec Ideal S1x1x1x8x128 .i32) :
    col3 (F := Ideal) (s 0) (s 1) (s 2) (g 0) (g 1) (g 2) (g 3) (g 4) (g 5)
      = concatenate S192x128 0 (List.ofFn fun n : Fin 12 => ⟨S16x128, tile s g ⟨n.val, by omega⟩⟩)
        (tiles_concat3 s g) := by
  sl_kernel_rfl

theorem col4_eq (s : Fin 4 → Vec Ideal S1x1x128 .i32) (g : Fin 8 → Vec Ideal S1x1x1x8x128 .i32) (q : Fin 256)
    (l : Fin 128) :
    col4 (F := Ideal) (s 0) (s 1) (s 2) (s 3) (g 0) (g 1) (g 2) (g 3) (g 4) (g 5) (g 6) (g 7) (ix2 q l)
      = codeVal (g ⟨q.val / 32, by omega⟩) (q.val % 32) (by omega) l
        * scaleVal (s ⟨q.val / 64, by omega⟩) (q.val % 32) l := by
  rw [← tile_apply s g ⟨q.val / 16, by omega⟩ ⟨q.val % 16, by omega⟩ l q.val (by simp only; omega), col4_ofFn]
  exact concatenate_ofFn_apply (t := S256x128) (s₁ := S16x128) (0 : Fin 2) (tile s g) (tiles_concat s g)
    rfl 16 rfl (ix2 q l) ⟨q.val / 16, by omega⟩ rfl (ix2 ⟨q.val % 16, by omega⟩ l) rfl
    (fun b hb => match b with | ⟨0, _⟩ => absurd rfl hb | ⟨1, _⟩ => rfl)

theorem col3_eq (s : Fin 4 → Vec Ideal S1x1x128 .i32) (g : Fin 8 → Vec Ideal S1x1x1x8x128 .i32) (q : Fin 192)
    (l : Fin 128) :
    col3 (F := Ideal) (s 0) (s 1) (s 2) (g 0) (g 1) (g 2) (g 3) (g 4) (g 5) (ix2 q l)
      = codeVal (g ⟨q.val / 32, by omega⟩) (q.val % 32) (by omega) l
        * scaleVal (s ⟨q.val / 64, by omega⟩) (q.val % 32) l := by
  rw [← tile_apply s g ⟨q.val / 16, by omega⟩ ⟨q.val % 16, by omega⟩ l q.val (by simp only; omega), col3_ofFn]
  exact concatenate_ofFn_apply (t := S192x128) (s₁ := S16x128) (N := 12) (0 : Fin 2)
    (fun n => tile s g ⟨n.val, by omega⟩) (tiles_concat3 s g)
    rfl 16 rfl (ix2 q l) ⟨q.val / 16, by omega⟩ rfl (ix2 ⟨q.val % 16, by omega⟩ l) rfl
    (fun b hb => match b with | ⟨0, _⟩ => absurd rfl hb | ⟨1, _⟩ => rfl)

/-- One entry of a sequence's column of 1728: the byte's value times the scale. -/
def term (sc : Fin 27 → Vec Ideal S1x1x128 .i32) (gw : Fin 54 → Vec Ideal S1x1x1x8x128 .i32) (l : Fin 128) (c : ℕ)
    (hc : c < 1728) : EReal :=
  codeVal (gw ⟨c / 32, by omega⟩) (c % 32) (by omega) l * scaleVal (sc ⟨c / 64, by omega⟩) (c % 32) l

theorem chunk4_apply (j : ℕ) (hj : 4 * j + 3 < 27) (sc : Fin 27 → Vec Ideal S1x1x128 .i32)
    (gw : Fin 54 → Vec Ideal S1x1x1x8x128 .i32) (q : Fin 256) (l : Fin 128) :
    chunk4 (F := Ideal) j hj sc gw (ix2 q l) = term sc gw l (256 * j + q.val) (by omega) := by
  refine (col4_eq (fun n => sc ⟨4 * j + n.val, by omega⟩) (fun n => gw ⟨8 * j + n.val, by omega⟩) q l).trans ?_
  unfold term
  have e1 : (256 * j + q.val) / 32 = 8 * j + q.val / 32 := by omega
  have e2 : (256 * j + q.val) / 64 = 4 * j + q.val / 64 := by omega
  have e3 : (256 * j + q.val) % 32 = q.val % 32 := by omega
  simp only [e1, e2, e3]

theorem chunk3_apply (sc : Fin 27 → Vec Ideal S1x1x128 .i32)
    (gw : Fin 54 → Vec Ideal S1x1x1x8x128 .i32) (q : Fin 192) (l : Fin 128) :
    chunk3 (F := Ideal) sc gw (ix2 q l) = term sc gw l (1536 + q.val) (by omega) := by
  refine (col3_eq (fun n => sc ⟨min 26 (24 + n.val), by omega⟩) (fun n => gw ⟨min 53 (48 + n.val), by omega⟩) q l).trans ?_
  unfold term
  have e1 : (1536 + q.val) / 32 = min 53 (48 + q.val / 32) := by omega
  have e2 : (1536 + q.val) / 64 = min 26 (24 + q.val / 64) := by omega
  have e3 : (1536 + q.val) % 32 = q.val % 32 := by omega
  simp only [e1, e2, e3]

end Cert.KernelIdeal.Model
-- ==== Proof.Product.lean ====
/- The seven products a point of the grid adds up, read at an entry: the whole sum over the 1728 channels of all
   neighbours. -/
module

public import proofs.«01_k».proof.Proof.Columns

@[expose] public section

noncomputable section

namespace Cert.KernelIdeal.Model

open Idealize.ShloMosaic Idealize.ShloMosaic.Tactic Idealize.SL.Sem Cert.KernelIdeal.Gen
open scoped BigOperators

/-- A sum over 1728 positions taken in six runs of 256 and one of 192. -/
theorem sum_runs (f : Fin 1728 → EReal) :
    ∑ c, f c = ((((((0 + ∑ q : Fin 256, f ⟨256 * 0 + q.val, by omega⟩) + ∑ q : Fin 256, f ⟨256 * 1 + q.val, by omega⟩)
      + ∑ q : Fin 256, f ⟨256 * 2 + q.val, by omega⟩) + ∑ q : Fin 256, f ⟨256 * 3 + q.val, by omega⟩)
      + ∑ q : Fin 256, f ⟨256 * 4 + q.val, by omega⟩) + ∑ q : Fin 256, f ⟨256 * 5 + q.val, by omega⟩)
      + ∑ q : Fin 192, f ⟨1536 + q.val, by omega⟩ := by
  let g : ℕ → EReal := fun n => if h : n < 1728 then f ⟨n, h⟩ else 0
  have hg : ∀ (n : ℕ) (h : n < 1728), f ⟨n, h⟩ = g n := fun n h => by simp only [g, dif_pos h]
  have h0 : ∑ c, f c = ∑ n ∈ Finset.range 1728, g n := by
    rw [← Fin.sum_univ_eq_sum_range g 1728]
    exact Finset.sum_congr rfl fun c _ => hg c.val c.isLt
  have h256 : ∀ (j : ℕ) (hj : j < 6), ∑ q : Fin 256, f ⟨256 * j + q.val, by omega⟩
      = ∑ n ∈ Finset.range 256, g (256 * j + n) := fun j hj => by
    rw [← Fin.sum_univ_eq_sum_range (fun n => g (256 * j + n)) 256]
    exact Finset.sum_congr rfl fun c _ => hg _ _
  have h192 : ∑ q : Fin 192, f ⟨1536 + q.val, by omega⟩ = ∑ n ∈ Finset.range 192, g (1536 + n) := by
    rw [← Fin.sum_univ_eq_sum_range (fun n => g (1536 + n)) 192]
    exact Finset.sum_congr rfl fun c _ => hg _ _
  rw [h0, h256 0 (by omega), h256 1 (by omega), h256 2 (by omega), h256 3 (by omega), h256 4 (by omega),
    h256 5 (by omega), h192]
  rw [show Finset.range 1728 = Finset.range (256 + 256 + 256 + 256 + 256 + 256 + 192) from rfl, Finset.sum_range_add,
    Finset.sum_range_add, Finset.sum_range_add, Finset.sum_range_add, Finset.sum_range_add, Finset.sum_range_add]
  simp only [zero_add, Nat.mul_zero, Nat.reduceMul, Nat.reduceAdd]

theorem pair256_left (u v : FVec Ideal S256x128 .bf16) (q : Fin 256) (l : Fin 128) :
    concatenate S256x256 1 [⟨S256x128, u⟩, ⟨S256x128, v⟩] concatenates_S256x128_S256x128_S256x256_d1
      (ix2 q ⟨l.val, by omega⟩) = u (ix2 q l) := by
  exact concatenate_pair_apply_left (t := S256x256) (1 : Fin 2) u v _ _ rfl (ix2 q l)
    (fun b => match b with | ⟨0, _⟩ => rfl | ⟨1, _⟩ => rfl)

theorem pair256_right (u v : FVec Ideal S256x128 .bf16) (q : Fin 256) (l : Fin 128) :
    concatenate S256x256 1 [⟨S256x128, u⟩, ⟨S256x128, v⟩] concatenates_S256x128_S256x128_S256x256_d1
      (ix2 q ⟨128 + l.val, by omega⟩) = v (ix2 q l) := by
  exact concatenate_pair_apply_right (t := S256x256) (1 : Fin 2) u v _ _ rfl rfl (ix2 q l)
    (fun b hb => match b with | ⟨0, _⟩ => rfl | ⟨1, _⟩ => absurd rfl hb)
    (Nat.add_comm _ _)

theorem pair192_left (u v : FVec Ideal S192x128 .bf16) (q : Fin 192) (l : Fin 128) :
    concatenate S192x256 1 [⟨S192x128, u⟩, ⟨S192x128, v⟩] concatenates_S192x128_S192x128_S192x256_d1
      (ix2 q ⟨l.val, by omega⟩) = u (ix2 q l) := by
  exact concatenate_pair_apply_left (t := S192x256) (1 : Fin 2) u v _ _ rfl (ix2 q l)
    (fun b => match b with | ⟨0, _⟩ => rfl | ⟨1, _⟩ => rfl)

theorem pair192_right (u v : FVec Ideal S192x128 .bf16) (q : Fin 192) (l : Fin 128) :
    concatenate S192x256 1 [⟨S192x128, u⟩, ⟨S192x128, v⟩] concatenates_S192x128_S192x128_S192x256_d1
      (ix2 q ⟨128 + l.val, by omega⟩) = v (ix2 q l) := by
  exact concatenate_pair_apply_right (t := S192x256) (1 : Fin 2) u v _ _ rfl rfl (ix2 q l)
    (fun b hb => match b with | ⟨0, _⟩ => rfl | ⟨1, _⟩ => absurd rfl hb)
    (Nat.add_comm _ _)

theorem madd4_apply (a : FVec Ideal S80x256 .f32) (w : Vec Ideal S80x256 .bf16) (u v : FVec Ideal S256x128 .bf16)
    (o : Fin 80) (m : Fin 256) :
    madd4 (F := Ideal) a w u v (ix2 o m) = a (ix2 o m) + ∑ q : Fin 256, w (ix2 o q)
      * concatenate S256x256 1 [⟨S256x128, u⟩, ⟨S256x128, v⟩] concatenates_S256x128_S256x128_S256x256_d1 (ix2 q m) := by
  unfold madd4
  rw [addf_apply]
  refine congrArg (a (ix2 o m) + ·) ?_
  refine (Ideal.matmul_plain_apply (M := 80) (K := 256) (N := 256) none _ _ _ o m).trans ?_
  rw [show constant (F := Ideal) S80x256 .f32 0x00000000#32 (ValueIdx.ix2 o m) = 0 from Ideal.ofBits_zero_f32, zero_add]
  refine Finset.sum_congr rfl fun q _ => ?_
  exact congrArg (· * _) (shapeCast_apply _ _ _ (ix2 o q) rfl)

theorem madd3_apply (a : FVec Ideal S80x256 .f32) (w : Vec Ideal S80x192 .bf16) (u v : FVec Ideal S192x128 .bf16)
    (o : Fin 80) (m : Fin 256) :
    madd3 (F := Ideal) a w u v (ix2 o m) = a (ix2 o m) + ∑ q : Fin 192, w (ix2 o q)
      * concatenate S192x256 1 [⟨S192x128, u⟩, ⟨S192x128, v⟩] concatenates_S192x128_S192x128_S192x256_d1 (ix2 q m) := by
  unfold madd3
  rw [addf_apply]
  refine congrArg (a (ix2 o m) + ·) ?_
  refine (Ideal.matmul_plain_apply (M := 80) (K := 192) (N := 256) none _ _ _ o m).trans ?_
  rw [show constant (F := Ideal) S80x256 .f32 0x00000000#32 (ValueIdx.ix2 o m) = 0 from Ideal.ofBits_zero_f32, zero_add]
  refine Finset.sum_congr rfl fun q _ => ?_
  exact congrArg (· * _) (shapeCast_apply _ _ _ (ix2 o q) rfl)

theorem lt_block (j : Fin 6) (q : Fin 256) : 256 * j.val + q.val < 1728 := by omega

theorem lt_last (q : Fin 192) : 1536 + q.val < 1728 := by omega

variable (sa sb : Fin 27 → Vec Ideal S1x1x128 .i32) (ga gb : Fin 54 → Vec Ideal S1x1x1x8x128 .i32)
  (w : Fin 6 → Vec Ideal S80x256 .bf16) (w6 : Vec Ideal S80x192 .bf16) (wf : Fin 80 → Fin 1728 → EReal)
  (hw : ∀ (j : Fin 6) (o : Fin 80) (q : Fin 256), w j (ix2 o q) = wf o ⟨256 * j.val + q.val, lt_block j q⟩)
  (hw6 : ∀ (o : Fin 80) (q : Fin 192), w6 (ix2 o q) = wf o ⟨1536 + q.val, lt_last q⟩)
include hw hw6

/-- The left half of the product: every channel of the first sequence's neighbours, weighted. -/
theorem left_accum (o : Fin 80) (l : Fin 128) :
    left (accum (F := Ideal) sa sb ga gb w w6) (ix2 o l)
      = ∑ c : Fin 1728, wf o c * term sa ga l c.val c.isLt := by
  unfold left
  rw [extractStridedSlice_apply _ _ _ _ (ix2 o ⟨l.val, by omega⟩)
    (fun a => match a with | ⟨0, _⟩ => by simp [ix2] | ⟨1, _⟩ => by simp [ix2])]
  unfold accum
  simp only [madd3_apply, madd4_apply, pair256_left, pair192_left, chunk4_apply, chunk3_apply, hw, hw6]
  rw [sum_runs, show broadcast S80x256 (Scalar.ofBits (F := Ideal) .f32 0x00000000#32) (ix2 o ⟨l.val, by omega⟩) = (0 : EReal)
    from Ideal.ofBits_zero_f32]
  rfl

/-- The right half of the product: the same for the second sequence. -/
theorem right_accum (o : Fin 80) (l : Fin 128) :
    right (accum (F := Ideal) sa sb ga gb w w6) (ix2 o l)
      = ∑ c : Fin 1728, wf o c * term sb gb l c.val c.isLt := by
  unfold right
  rw [extractStridedSlice_apply _ _ _ _ (ix2 o ⟨128 + l.val, by omega⟩)
    (fun a => match a with | ⟨0, _⟩ => by simp [ix2] | ⟨1, _⟩ => by simp [ix2])]
  unfold accum
  simp only [madd3_apply, madd4_apply, pair256_right, pair192_right, chunk4_apply, chunk3_apply, hw, hw6]
  rw [sum_runs, show broadcast S80x256 (Scalar.ofBits (F := Ideal) .f32 0x00000000#32) (ix2 o ⟨128 + l.val, by omega⟩) = (0 : EReal)
    from Ideal.ofBits_zero_f32]
  rfl

end Cert.KernelIdeal.Model
-- ==== Proof.ExpField.lean ====
/- The exponent field of a 32-bit float, found by a binary search over the powers of two, at the real numbers. -/
module

public import Idealize.ShloMosaic.PureOps.Ideal
public import Idealize.ShloMosaic.PureOps.Ideal.Laws
public import Idealize.ShloMosaic.Lib.IdealHost

@[expose] public section

noncomputable section

namespace Cert.Math

open Idealize.ShloMosaic

/-- One step of the search: keep `e + b` when the test holds there. -/
def stepE (q : BitVec 32 → Bool) (e b : BitVec 32) : BitVec 32 := if q (e + b) then e + b else e

/-- The whole search, eight steps from 128 down to 1. -/
def searchE (q : BitVec 32 → Bool) : BitVec 32 :=
  stepE q (stepE q (stepE q (stepE q (stepE q (stepE q (stepE q (stepE q 0#32 128#32) 64#32) 32#32) 16#32) 8#32) 4#32) 2#32) 1#32

theorem stepE_inv (q : BitVec 32 → Bool) (n : ℕ)
    (h : ∀ c : BitVec 32, 1 ≤ c.toNat → c.toNat ≤ 255 → q c = decide (c.toNat ≤ n))
    (e b : BitVec 32) (hb : 1 ≤ b.toNat) (he : e.toNat ≤ n) (hn : n < e.toNat + 2 * b.toNat)
    (h2 : e.toNat + 2 * b.toNat ≤ 256) :
    (stepE q e b).toNat ≤ n ∧ n < (stepE q e b).toNat + b.toNat ∧ (stepE q e b).toNat + b.toNat ≤ 256 := by
  have hs : (e + b).toNat = e.toNat + b.toNat := by rw [BitVec.toNat_add]; omega
  unfold stepE
  rw [h (e + b) (by omega) (by omega)]
  by_cases hc : (e + b).toNat ≤ n
  · rw [if_pos (by simpa using hc)]; omega
  · rw [if_neg (by simpa using hc)]; omega

/-- The search over a test that holds exactly up to `n` finds `n`. -/
theorem searchE_eq (q : BitVec 32 → Bool) (n : ℕ) (hn : n ≤ 255)
    (h : ∀ c : BitVec 32, 1 ≤ c.toNat → c.toNat ≤ 255 → q c = decide (c.toNat ≤ n)) :
    searchE q = BitVec.ofNat 32 n := by
  have a1 := stepE_inv q n h 0#32 128#32 (by decide) (by simp) (by simp; omega) (by simp)
  have a2 := stepE_inv q n h _ 64#32 (by decide) a1.1 (by simpa using a1.2.1) (by simpa using a1.2.2)
  have a3 := stepE_inv q n h _ 32#32 (by decide) a2.1 (by simpa using a2.2.1) (by simpa using a2.2.2)
  have a4 := stepE_inv q n h _ 16#32 (by decide) a3.1 (by simpa using a3.2.1) (by simpa using a3.2.2)
  have a5 := stepE_inv q n h _ 8#32 (by decide) a4.1 (by simpa using a4.2.1) (by simpa using a4.2.2)
  have a6 := stepE_inv q n h _ 4#32 (by decide) a5.1 (by simpa using a5.2.1) (by simpa using a5.2.2)
  have a7 := stepE_inv q n h _ 2#32 (by decide) a6.1 (by simpa using a6.2.1) (by simpa using a6.2.2)
  have a8 := stepE_inv q n h _ 1#32 (by decide) a7.1 (by simpa using a7.2.1) (by simpa using a7.2.2)
  apply BitVec.eq_of_toNat_eq
  have h1 := a8.1
  have h2 := a8.2.1
  change (searchE q).toNat = _
  change (searchE q).toNat ≤ n at h1
  change n < (searchE q).toNat + _ at h2
  simp only [BitVec.toNat_ofNat] at h2 ⊢
  omega

theorem field_shift (c : ℕ) (h2 : c ≤ 254) : (BitVec.ofNat 32 c <<< 23).toNat = c * 8388608 := by
  rw [BitVec.toNat_shiftLeft, BitVec.toNat_ofNat, Nat.shiftLeft_eq]
  omega

theorem field_sign (c : ℕ) (h2 : c ≤ 254) : ((BitVec.ofNat 32 c <<< 23).extractLsb' 31 1 == 1#1) = false := by
  apply beq_false_of_ne
  intro h
  have := congrArg BitVec.toNat h
  rw [BitVec.extractLsb'_toNat, field_shift c h2, Nat.shiftRight_eq_div_pow, BitVec.toNat_ofNat] at this
  omega

theorem field_exp (c : ℕ) (h2 : c ≤ 254) : ((BitVec.ofNat 32 c <<< 23).extractLsb' 23 8).toNat = c := by
  rw [BitVec.extractLsb'_toNat, field_shift c h2, Nat.shiftRight_eq_div_pow]
  omega

theorem field_frac (c : ℕ) (h2 : c ≤ 254) : ((BitVec.ofNat 32 c <<< 23).extractLsb' 0 23).toNat = 0 := by
  rw [BitVec.extractLsb'_toNat, field_shift c h2, Nat.shiftRight_eq_div_pow]
  omega

/-- The pattern with exponent field `c` (1 to 254), no sign and no fraction, denotes `2 ^ (c - 127)`. -/
theorem ofBits_field (c : ℕ) (h1 : 1 ≤ c) (h2 : c ≤ 254) :
    Ideal.ofBits .f32 (BitVec.ofNat 32 c <<< 23) = (((2 : ℝ) ^ ((c : ℤ) - 127) : ℝ) : EReal) := by
  have e1 := field_sign c h2
  have e2 := field_exp c h2
  have e3 := field_frac c h2
  change Ideal.ieee 8 23 (BitVec.ofNat 32 c <<< 23) = _
  generalize BitVec.ofNat 32 c <<< 23 = b at e1 e2 e3
  unfold Ideal.ieee
  rw [e1, e2, e3]
  dsimp only
  have n1 : ¬ (c = 2 ^ 8 - 1) := by norm_num; omega
  have n2 : ¬ (c = 0) := by omega
  rw [if_neg n1, if_neg n2]
  have h23 : (((2 ^ 23 + 0 : ℕ) : ℝ)) = (2:ℝ) ^ (23 : ℤ) := by
    rw [Nat.add_zero, Nat.cast_pow, Nat.cast_ofNat]; rfl
  rw [h23]
  have h : (1 : ℝ) * (2:ℝ) ^ (23 : ℤ) * (2:ℝ) ^ ((c : ℤ) - (2 ^ (8 - 1) - 1) - (23 : ℕ)) = (2 : ℝ) ^ ((c : ℤ) - 127) := by
    rw [one_mul, ← zpow_add₀ two_ne_zero]
    congr 1
    norm_num
  have hz : (if false = true then (-1 : ℝ) else 1) = 1 := if_neg (by decide)
  rw [hz, h]

/-- The pattern with exponent field 255 and no fraction denotes the upper infinity. -/
theorem ofBits_field_top : Ideal.ofBits .f32 (255#32 <<< 23) = ⊤ := by
  simp [Ideal.ofBits, Ideal.ieee]

/-- The test of the search on an extended real: is the power of two with exponent field `c` at most `x`? -/
def atLeast (x : EReal) (c : BitVec 32) : Bool := decide (Ideal.ofBits .f32 (c <<< 23) ≤ x)

/-- The exponent field found by the search. -/
def field (x : EReal) : BitVec 32 := searchE (atLeast x)

theorem ofNat_toNat32 (c : BitVec 32) : c = BitVec.ofNat 32 c.toNat := by simp

/-- For `2 ^ (n - 127) ≤ x < 2 ^ (n - 126)`, `1 ≤ n ≤ 254`, the search finds `n`. -/
theorem field_normal (x : ℝ) (n : ℕ) (h1 : 1 ≤ n) (h2 : n ≤ 254)
    (hlo : (2 : ℝ) ^ ((n : ℤ) - 127) ≤ x) (hhi : x < (2 : ℝ) ^ ((n : ℤ) - 126)) :
    field (x : EReal) = BitVec.ofNat 32 n := by
  refine searchE_eq _ n (by omega) fun c c1 c2 => ?_
  unfold atLeast
  by_cases hc : c.toNat = 255
  · have : c = 255#32 := by rw [ofNat_toNat32 c, hc]
    subst this
    rw [decide_eq_decide, ofBits_field_top]
    simp; omega
  · have hT := ofBits_field c.toNat c1 (by omega)
    rw [← ofNat_toNat32] at hT
    rw [decide_eq_decide, hT, EReal.coe_le_coe_iff]
    constructor
    · intro h
      by_contra hlt
      have : (2 : ℝ) ^ ((n : ℤ) - 126) ≤ (2 : ℝ) ^ ((c.toNat : ℤ) - 127) :=
        zpow_le_zpow_right₀ (by norm_num) (by omega)
      linarith
    · intro h
      have : (2 : ℝ) ^ ((c.toNat : ℤ) - 127) ≤ (2 : ℝ) ^ ((n : ℤ) - 127) :=
        zpow_le_zpow_right₀ (by norm_num) (by omega)
      linarith

/-- Below `2 ^ (-126)` the search finds 0. -/
theorem field_small (x : ℝ) (h : x < (2 : ℝ) ^ (-126 : ℤ)) : field (x : EReal) = 0#32 := by
  refine searchE_eq _ 0 (by omega) fun c c1 c2 => ?_
  unfold atLeast
  rw [show decide (c.toNat ≤ 0) = false by simp; omega]
  by_cases hc : c.toNat = 255
  · have : c = 255#32 := by rw [ofNat_toNat32 c, hc]
    subst this
    rw [ofBits_field_top]; simp
  · have hT := ofBits_field c.toNat c1 (by omega)
    rw [← ofNat_toNat32] at hT
    rw [decide_eq_false_iff_not, hT, EReal.coe_le_coe_iff, not_le]
    have : (2 : ℝ) ^ (-126 : ℤ) ≤ (2 : ℝ) ^ ((c.toNat : ℤ) - 127) :=
      zpow_le_zpow_right₀ (by norm_num) (by omega)
    linarith

/-- The quantiser's exponent as the kernel has it: the field of the scaled maximum plus one; 127 where the maximum is 0. -/
def kexp (a c : EReal) : BitVec 32 := if a = 0 then 127#32 else field (a * c) + 1#32

/-- The quantiser's exponent as written with logarithms: `floor (log₂ q) + 1`, not below `-126`; 0 where the maximum is 0. -/
def rexp (a c : EReal) : EReal :=
  if a = 0 then 0 else max (Ideal.liftRound Int.floor (Ideal.div (Ideal.log (a * c)) (Ideal.log 2)) + 1) (-126)

theorem exp2_int (k : ℤ) : Ideal.exp2 (((k : ℝ)) : EReal) = (((2 : ℝ) ^ k : ℝ) : EReal) := by
  rw [Ideal.exp2_coe]
  congr 1
  exact Real.rpow_intCast 2 k

theorem log_div (q : ℝ) (hq : 0 < q) :
    Ideal.div (Ideal.log (q : EReal)) (Ideal.log 2) = (((Real.log q / Real.log 2) : ℝ) : EReal) := by
  have h2 : Ideal.log 2 = ((Real.log 2 : ℝ) : EReal) := by
    have : (2 : EReal) = ((2 : ℝ) : EReal) := rfl
    rw [this, Ideal.log_coe, if_neg (by norm_num)]
  have hne : Real.log 2 ≠ 0 := (Real.log_pos (by norm_num)).ne'
  rw [h2, Ideal.div_coe hne, Ideal.log_coe, if_neg (by linarith), ← EReal.coe_mul]
  congr 1
  ring

theorem two_rpow_log (q : ℝ) (hq : 0 < q) : (2 : ℝ) ^ (Real.log q / Real.log 2) = q := by
  have hne : Real.log 2 ≠ 0 := (Real.log_pos (by norm_num)).ne'
  rw [Real.rpow_def_of_pos (by norm_num), mul_div_cancel₀ _ hne, Real.exp_log hq]

/-- The two exponents agree: there is an integer `k` with `-126 ≤ k ≤ 126` which the second is and whose
    biased form the first is, for a maximum `a ≥ 0` whose scaled value is below `2 ^ 126`. -/
theorem exponents (a c : ℝ) (ha : 0 ≤ a) (hc : 0 < c) (hb : a * c < (2 : ℝ) ^ (126 : ℤ)) :
    ∃ k : ℤ, -126 ≤ k ∧ k ≤ 126 ∧ rexp (a : EReal) (c : EReal) = (((k : ℝ)) : EReal)
      ∧ kexp (a : EReal) (c : EReal) = BitVec.ofNat 32 (k + 127).toNat := by
  by_cases h0 : a = 0
  · refine ⟨0, by norm_num, by norm_num, ?_, ?_⟩
    · simp [rexp, h0]
    · simp [kexp, h0]
  · have hne : (a : EReal) ≠ 0 := by exact_mod_cast h0
    have hq : 0 < a * c := mul_pos (lt_of_le_of_ne ha (Ne.symm h0)) hc
    set q := a * c with hqd
    have hr : rexp (a : EReal) (c : EReal) = (((max (⌊(Real.log q / Real.log 2)⌋ + 1) (-126) : ℤ) : ℝ) : EReal) := by
      rw [rexp, if_neg hne, ← EReal.coe_mul, ← hqd, log_div q hq, Ideal.liftRound_coe]
      push_cast
      exact (EReal.coe_strictMono.monotone.map_max).symm
    have hk : kexp (a : EReal) (c : EReal) = field (q : EReal) + 1#32 := by
      rw [kexp, if_neg hne, ← EReal.coe_mul]
    have fl : (2 : ℝ) ^ (⌊(Real.log q / Real.log 2)⌋) ≤ q := by
      have h := Int.floor_le ((Real.log q / Real.log 2))
      rw [← Real.rpow_intCast]
      calc (2 : ℝ) ^ ((⌊(Real.log q / Real.log 2)⌋ : ℤ) : ℝ) ≤ (2 : ℝ) ^ ((Real.log q / Real.log 2)) :=
            Real.rpow_le_rpow_of_exponent_le (by norm_num) h
        _ = q := two_rpow_log q hq
    have fu : q < (2 : ℝ) ^ (⌊(Real.log q / Real.log 2)⌋ + 1) := by
      have h := Int.lt_floor_add_one ((Real.log q / Real.log 2))
      rw [← Real.rpow_intCast]
      calc q = (2 : ℝ) ^ ((Real.log q / Real.log 2)) := (two_rpow_log q hq).symm
        _ < _ := Real.rpow_lt_rpow_of_exponent_lt (by norm_num) (by push_cast; exact h)
    set f := ⌊(Real.log q / Real.log 2)⌋ with hf
    by_cases hs : q < (2 : ℝ) ^ (-126 : ℤ)
    · have hf1 : f < -126 := by
        by_contra h
        have : (2 : ℝ) ^ (-126 : ℤ) ≤ (2 : ℝ) ^ f := zpow_le_zpow_right₀ (by norm_num) (by omega)
        linarith
      refine ⟨-126, by norm_num, by norm_num, ?_, ?_⟩
      · rw [hr, max_eq_right (by omega)]
      · rw [hk, field_small q hs]; rfl
    · push Not at hs
      have hf1 : -126 ≤ f := by
        by_contra h
        have : (2 : ℝ) ^ (f + 1) ≤ (2 : ℝ) ^ (-126 : ℤ) := zpow_le_zpow_right₀ (by norm_num) (by omega)
        linarith
      have hf2 : f < 126 := by
        by_contra h
        have : (2 : ℝ) ^ (126 : ℤ) ≤ (2 : ℝ) ^ f := zpow_le_zpow_right₀ (by norm_num) (by omega)
        linarith
      refine ⟨f + 1, by omega, by omega, ?_, ?_⟩
      · rw [hr, max_eq_left (by omega)]
      · have hn : (((f + 127).toNat : ℕ) : ℤ) = f + 127 := Int.toNat_of_nonneg (by omega)
        rw [hk, field_normal q (f + 127).toNat (by omega) (by omega)
          (by rw [hn]; simpa using fl) (by rw [hn]; convert fu using 2; ring)]
        apply BitVec.eq_of_toNat_eq
        simp only [BitVec.toNat_add, BitVec.toNat_ofNat]
        omega

/-- The kernel's scale is the power of two of the written exponent … -/
theorem scale_eq (a c : ℝ) (ha : 0 ≤ a) (hc : 0 < c) (hb : a * c < (2 : ℝ) ^ (126 : ℤ)) :
    Ideal.ofBits .f32 (kexp (a : EReal) (c : EReal) <<< 23) = Ideal.exp2 (rexp (a : EReal) (c : EReal)) := by
  obtain ⟨k, h1, h2, hr, hk⟩ := exponents a c ha hc hb
  rw [hr, hk, exp2_int, ofBits_field _ (by omega) (by omega)]
  congr 2
  omega

/-- … and its inverse scale the power of two of the exponent negated. -/
theorem inv_eq (a c : ℝ) (ha : 0 ≤ a) (hc : 0 < c) (hb : a * c < (2 : ℝ) ^ (126 : ℤ)) :
    Ideal.ofBits .f32 ((254#32 - kexp (a : EReal) (c : EReal)) <<< 23) = Ideal.exp2 (-rexp (a : EReal) (c : EReal)) := by
  obtain ⟨k, h1, h2, hr, hk⟩ := exponents a c ha hc hb
  have e : 254#32 - BitVec.ofNat 32 (k + 127).toNat = BitVec.ofNat 32 (127 - k).toNat := by
    apply BitVec.eq_of_toNat_eq
    simp only [BitVec.toNat_sub, BitVec.toNat_ofNat]
    omega
  rw [hr, hk, e, ← EReal.coe_neg, ← Int.cast_neg, exp2_int, ofBits_field _ (by omega) (by omega)]
  congr 2
  omega

end Cert.Math

end
-- ==== Proof.Quantise.lean ====
/- The quantiser of a point of the grid, read at an entry. -/
module

public import proofs.«01_k».proof.Proof.Product
public import proofs.«01_k».proof.Proof.ExpField

@[expose] public section

noncomputable section

namespace Cert.KernelIdeal.Model

open Idealize.ShloMosaic Idealize.ShloMosaic.Tactic Idealize.SL.Sem Cert.KernelIdeal.Gen
open scoped BigOperators

theorem vstep_apply {s : Shape} (q : FVec Ideal s .f32) (e : IVec s 32) (b : BitVec 32) (i : s.Idx) :
    vstep q e b i = Cert.Math.stepE (Cert.Math.atLeast (q i)) (e i) b := by
  unfold vstep Cert.Math.stepE Cert.Math.atLeast
  show Scalar.select (BitVec.ofBool (decide (Ideal.ofBits .f32 ((e i + b) <<< (23#32)) ≤ q i))) (e i + b) (e i) = _
  unfold Scalar.select
  by_cases h : Ideal.ofBits .f32 ((e i + b) <<< (23#32)) ≤ q i
  · rw [decide_eq_true h, if_pos (show BitVec.ofBool true = 1 from rfl)]; exact (if_pos (decide_eq_true h)).symm
  · rw [decide_eq_false h, if_neg (by decide)]; exact (if_neg (by rw [decide_eq_true_eq]; exact h)).symm

theorem vfield_apply {s : Shape} (q : FVec Ideal s .f32) (i : s.Idx) : vfield q i = Cert.Math.field (q i) := by
  unfold vfield Cert.Math.field Cert.Math.searchE
  simp only [vstep_apply]
  rfl

/-- The reciprocal of 448 the kernel multiplies by. -/
def recip : EReal := Ideal.ofBits .f32 0x3B124925#32

theorem expoOf_apply (m : FVec Ideal S1x128 .f32) (l : Fin 128) :
    expoOf (F := Ideal) m (ix2 0 l) = Cert.Math.kexp (m (ix2 0 l)) recip := by
  unfold expoOf Cert.Math.kexp
  show Scalar.select (BitVec.ofBool (decide (m (ix2 0 l) = Ideal.ofBits .f32 0x00000000#32))) (127#32)
    (vfield (mulf m (broadcast S1x128 (Scalar.ofBits .f32 0x3B124925#32))) (ix2 0 l) + 1#32) = _
  rw [vfield_apply, Ideal.ofBits_zero_f32]
  unfold Scalar.select
  by_cases h : m (ix2 0 l) = 0
  · rw [if_pos (by simp [h]), if_pos h]
  · rw [if_neg (by simp [h]), if_neg h]; rfl

/-- The largest entry of a column. -/
def top (y : Fin 80 → EReal) : EReal := (Finset.univ : Finset (Fin 80)).fold max ⊥ y

theorem amax_apply (y : FVec Ideal S80x128 .f32) (l : Fin 128) :
    amax (F := Ideal) y (ix2 0 l) = top (fun o => y (ix2 o l)) := by
  unfold amax
  rw [shapeCast_apply _ _ _ (ix1 l) (by rw [Shape.rowMajor_val_one, Shape.rowMajor_val_two]; simp [ix1, ix2])]
  have h1 := Ideal.multiReduction_maximumf_single (a := (0 : Fin 2)) (s := S80x128) (t := S128) (φ := .f32) y
    0xFF800000#32 reduces_S80x128_S128 (.inl rfl) rfl (ix1 l)
  refine h1.trans ?_
  have hb : (FloatOps.ofBits (F := Ideal) .f32 0xFF800000#32 : EReal) = ⊥ := by
    show Ideal.ofBits .f32 0xFF800000#32 = ⊥
    simp [Ideal.ofBits, Ideal.ieee]
  have hl : ∀ o : Fin 80, reduces_S80x128_S128.lift (ix1 l) o = (ix2 o l : S80x128.Idx) := fun o => by
    funext b
    match b with
    | ⟨0, _⟩ => rfl
    | ⟨1, _⟩ => rfl
  rw [hb]
  unfold top
  refine congrArg (fun f => Finset.fold max ⊥ f Finset.univ) (funext fun o => ?_)
  exact congrArg y (hl o)

theorem scaleOut_apply (y : FVec Ideal S80x128 .f32) (l : Fin 128) :
    scaleOut (F := Ideal) y (ix2 0 l)
      = Ideal.ofBits .f32 (Cert.Math.kexp (top (fun o => y (ix2 o l))) recip <<< 23) := by
  unfold scaleOut
  show Ideal.ofBits .f32 (expoOf (F := Ideal) (amax y) (ix2 0 l) <<< (23#32)) = _
  rw [expoOf_apply, amax_apply]
  rfl

theorem quant_apply (y : FVec Ideal S80x128 .f32) (o : Fin 80) (l : Fin 128) :
    quant (F := Ideal) y (ix3 0 o l)
      = min (Ideal.ofBits .f32 0x43E00000#32) (max (Ideal.ofBits .f32 0xC3E00000#32)
          (y (ix2 o l) * Ideal.ofBits .f32 ((254#32 - Cert.Math.kexp (top (fun o => y (ix2 o l))) recip) <<< 23))) := by
  unfold quant
  rw [shapeCast_apply _ _ _ (ix2 o l) (by rw [Shape.rowMajor_val_three, Shape.rowMajor_val_two]; simp [ix3, ix2])]
  rw [truncf_apply, minimumf_apply, maximumf_apply, mulf_apply,
    broadcastTo_apply _ _ _ (ix2 0 l) (fun a => match a with | ⟨0, _⟩ => rfl | ⟨1, _⟩ => rfl)]
  show min _ (max _ (y (ix2 o l) * Ideal.ofBits .f32 ((254#32 - expoOf (F := Ideal) (amax y) (ix2 0 l)) <<< (23#32)))) = _
  rw [expoOf_apply, amax_apply]
  rfl

theorem relu_apply (a : FVec Ideal S80x128 .f32) (ws b : Vec Ideal S80x128 .f32) (o : Fin 80) (l : Fin 128) :
    relu (F := Ideal) a ws b (ix2 o l) = max (a (ix2 o l) * ws (ix2 o l) + b (ix2 o l)) 0 := by
  unfold relu
  rw [maximumf_apply, addf_apply, mulf_apply, shapeCast_apply _ _ _ (ix2 o l) rfl, shapeCast_apply _ _ _ (ix2 o l) rfl]
  show max _ (Ideal.ofBits .f32 0x00000000#32) = _
  rw [Ideal.ofBits_zero_f32]
  rfl

end Cert.KernelIdeal.Model
-- ==== Proof.Words.lean ====
/- The scale words of a point of the grid: the word a neighbour's index picks holds the exponent of that neighbour's
   scale in both halves, and a half read as a bf16 value is the scale itself. -/
module

public import proofs.«01_k».proof.Proof.Quantise

@[expose] public section

noncomputable section

namespace Cert.KernelIdeal.Model

open Idealize.ShloMosaic Idealize.ShloMosaic.Tactic Idealize.SL.Sem Cert.KernelIdeal.Gen
open scoped BigOperators

/-! ### Words -/

/-- Four bytes in a word: byte `j` is the `j`-th. -/
theorem byte_of_word (a b c d : BitVec 32) (j : ℕ) (hj : j < 4) :
    (((a &&& 255#32) ||| (b &&& 255#32) <<< 8 ||| (c &&& 255#32) <<< 16 ||| (d &&& 255#32) <<< 24) >>> (8 * j)) &&& 255#32
      = (if j = 0 then a else if j = 1 then b else if j = 2 then c else d) &&& 255#32 := by
  have h255 : ∀ i : ℕ, (255#32).getLsbD i = decide (i < 8) := fun i => by
    by_cases hi : i < 32
    · interval_cases i <;> rfl
    · rw [BitVec.getLsbD_of_ge _ _ (by omega)]; simp; omega
  apply BitVec.eq_of_getLsbD_eq
  intro i hi
  simp only [BitVec.getLsbD_and, BitVec.getLsbD_ushiftRight, BitVec.getLsbD_or, BitVec.getLsbD_shiftLeft, h255]
  by_cases h8 : i < 8
  · interval_cases j
    · simp [h8, show ¬ (24 ≤ i) by omega, show ¬ (16 ≤ i) by omega, show i < 16 by omega, show i < 24 by omega]
    · simp [h8, show 8 + i < 16 by omega, show 8 + i < 24 by omega, show 8 + i < 32 by omega]
    · simp [h8, show ¬ 16 + i < 8 by omega, show ¬ (16 + i - 8 < 8) by omega, show 16 + i < 24 by omega, show 16 + i < 32 by omega]
    · simp [h8, show ¬ 24 + i < 8 by omega, show ¬ (24 + i - 8 < 8) by omega, show ¬ (24 + i - 16 < 8) by omega, show 24 + i < 32 by omega]
  · simp [h8]

/-- The lane of a neighbour index. -/
theorem lane_word (n : BitVec 32) (h : n.toNat < 2048) :
    (n &&& 127#32).toNat = n.toNat % 128 ∧ (n &&& 127#32).slt 0#32 = false := by
  have h1 : (n &&& 127#32).toNat = n.toNat % 128 := by
    rw [BitVec.toNat_and]
    exact Nat.and_two_pow_sub_one_eq_mod n.toNat 7
  refine ⟨h1, ?_⟩
  rw [BitVec.slt_eq_decide, decide_eq_false_iff_not, BitVec.toInt_eq_toNat_of_lt (by omega)]
  simp

theorem sshift (n : BitVec 32) (h : n.toNat < 2048) (k : BitVec 32) :
    n.sshiftRight' k = n >>> k.toNat := by
  rw [BitVec.sshiftRight', BitVec.sshiftRight_eq_of_msb_false]
  rw [BitVec.msb_eq_false_iff_two_mul_lt]; omega

/-- Which of the four words a neighbour index picks. -/
theorem group_word (n : BitVec 32) (h : n.toNat < 2048) : n.sshiftRight' 9#32 = BitVec.ofNat 32 (n.toNat / 512) := by
  rw [sshift n h]
  apply BitVec.eq_of_toNat_eq
  rw [BitVec.toNat_ushiftRight, Nat.shiftRight_eq_div_pow]
  show n.toNat / 512 = n.toNat / 512 % 2 ^ 32
  omega

/-- How far a neighbour index shifts the word. -/
theorem shift_word (n : BitVec 32) (h : n.toNat < 2048) :
    n.sshiftRight' 4#32 &&& 24#32 = BitVec.ofNat 32 (8 * (n.toNat / 128 % 4)) := by
  rw [sshift n h]
  have hd : ∀ m : Fin 128, BitVec.ofNat 32 m.val &&& 24#32 = BitVec.ofNat 32 (8 * (m.val / 8 % 4)) := by decide +kernel
  have e : n >>> (4#32).toNat = BitVec.ofNat 32 (n.toNat / 16) := by
    apply BitVec.eq_of_toNat_eq
    rw [BitVec.toNat_ushiftRight, Nat.shiftRight_eq_div_pow]
    show n.toNat / 16 = n.toNat / 16 % 2 ^ 32
    omega
  rw [e, hd ⟨n.toNat / 16, by omega⟩]
  congr 2
  show n.toNat / 16 / 8 % 4 = _
  omega

/-- An exponent in both halves of a word is the bf16 pattern with that exponent field in each. -/
theorem halves (e : BitVec 32) (h : e.toNat < 256) (k : ℕ) :
    (e * 8388736#32).extractLsb' (16 * (k % 2)) 16 = BitVec.ofNat 16 (e.toNat * 128) := by
  have hd : ∀ (m : Fin 256) (k : Fin 2), (BitVec.ofNat 32 m.val * 8388736#32).extractLsb' (16 * k.val) 16
      = BitVec.ofNat 16 (m.val * 128) := by decide +kernel
  have := hd ⟨e.toNat, h⟩ ⟨k % 2, by omega⟩
  rwa [← Cert.Math.ofNat_toNat32] at this

/-- A bf16 pattern with exponent field `n` and no fraction is the power of two `2 ^ (n - 127)`. -/
theorem ofBits_bf16 (n : ℕ) (h1 : 1 ≤ n) (h2 : n ≤ 254) :
    Ideal.ofBits .bf16 (BitVec.ofNat 16 (n * 128)) = (((2 : ℝ) ^ ((n : ℤ) - 127) : ℝ) : EReal) := by
  have hs : ((BitVec.ofNat 16 (n * 128)).extractLsb' 15 1 == 1#1) = false := by
    have hd : ∀ m : Fin 255, ((BitVec.ofNat 16 (m.val * 128)).extractLsb' 15 1 == 1#1) = false := by decide +kernel
    exact hd ⟨n, by omega⟩
  have he : ((BitVec.ofNat 16 (n * 128)).extractLsb' 7 8).toNat = n := by
    have hd : ∀ m : Fin 255, ((BitVec.ofNat 16 (m.val * 128)).extractLsb' 7 8).toNat = m.val := by decide +kernel
    exact hd ⟨n, by omega⟩
  have hf : ((BitVec.ofNat 16 (n * 128)).extractLsb' 0 7).toNat = 0 := by
    have hd : ∀ m : Fin 255, ((BitVec.ofNat 16 (m.val * 128)).extractLsb' 0 7).toNat = 0 := by decide +kernel
    exact hd ⟨n, by omega⟩
  generalize BitVec.ofNat 16 (n * 128) = w at hs he hf
  show Ideal.ieee 8 7 w = _
  unfold Ideal.ieee
  rw [hs, he, hf]
  dsimp only
  have n1 : ¬ (n = 2 ^ 8 - 1) := by norm_num; omega
  have n2 : ¬ (n = 0) := by omega
  rw [if_neg n1, if_neg n2]
  have h7 : (((2 ^ 7 + 0 : ℕ) : ℝ)) = (2:ℝ) ^ (7 : ℤ) := by
    rw [Nat.add_zero, Nat.cast_pow, Nat.cast_ofNat]; rfl
  rw [h7]
  have h : (1 : ℝ) * (2:ℝ) ^ (7 : ℤ) * (2:ℝ) ^ ((n : ℤ) - (2 ^ (8 - 1) - 1) - (7 : ℕ)) = (2 : ℝ) ^ ((n : ℤ) - 127) := by
    rw [one_mul, ← zpow_add₀ two_ne_zero]
    congr 1
    norm_num
  have hz : (if false = true then (-1 : ℝ) else 1) = 1 := if_neg (by decide)
  rw [hz, h]

/-! ### The exponents of the scales, packed and picked -/

/-- The exponent of the scale of token `n` of sequence `s`. -/
def expAt (x : Vec Ideal S8x2048 .f32) (s : Fin 8) (n : Fin 2048) : BitVec 32 :=
  Cert.Math.field (x (ix2 s n)) &&& 255#32

theorem expo_apply (x : Vec Ideal S8x2048 .f32) (s : Fin 8) (n : Fin 2048) :
    expo (F := Ideal) x (ix2 s n) = expAt x s n := by
  unfold expo expAt
  show vfield (F := Ideal) (s := S8x2048) x (ix2 s n) &&& 255#32 = _
  rw [vfield_apply]

/-- The packed word of group `g`. -/
def packAt (x : Vec Ideal S8x2048 .f32) (g : ℕ) (hg : g < 4) (s : Fin 8) (c : Fin 128) : BitVec 32 :=
  expAt x s ⟨512 * g + c.val, by omega⟩ ||| expAt x s ⟨512 * g + 128 + c.val, by omega⟩ <<< 8
    ||| expAt x s ⟨512 * g + 256 + c.val, by omega⟩ <<< 16 ||| expAt x s ⟨512 * g + 384 + c.val, by omega⟩ <<< 24

theorem pack_apply (a b c d : IVec S8x128 32) (s : Fin 8) (l : Fin 128) :
    pack a b c d (ix2 s l) = a (ix2 s l) ||| b (ix2 s l) <<< 8 ||| c (ix2 s l) <<< 16 ||| d (ix2 s l) <<< 24 := by
  unfold pack
  rw [shapeCast_apply _ _ _ (ix2 s l) rfl]
  rfl

theorem slice_apply (e : IVec S8x2048 32) (o : ℕ) (h : S8x2048.Slices ![0, o] S8x128) (s : Fin 8) (l : Fin 128)
    (ho : o + l.val < 2048) : extractStridedSlice S8x128 ![0, o] e h (ix2 s l) = e (ix2 s ⟨o + l.val, ho⟩) :=
  extractStridedSlice_apply _ _ _ _ _ (fun a => match a with | ⟨0, _⟩ => by simp [ix2] | ⟨1, _⟩ => by simp [ix2])

theorem pack0_apply (x : Vec Ideal S8x2048 .f32) (s : Fin 8) (c : Fin 128) :
    pack0 (F := Ideal) x (ix2 s c) = packAt x 0 (by omega) s c := by
  unfold pack0 packAt
  rw [pack_apply, slice_apply _ _ _ _ _ (by omega), slice_apply _ _ _ _ _ (by omega), slice_apply _ _ _ _ _ (by omega),
    slice_apply _ _ _ _ _ (by omega), expo_apply, expo_apply, expo_apply, expo_apply]

theorem pack1_apply (x : Vec Ideal S8x2048 .f32) (s : Fin 8) (c : Fin 128) :
    pack1 (F := Ideal) x (ix2 s c) = packAt x 1 (by omega) s c := by
  unfold pack1 packAt
  rw [pack_apply, slice_apply _ _ _ _ _ (by omega), slice_apply _ _ _ _ _ (by omega), slice_apply _ _ _ _ _ (by omega),
    slice_apply _ _ _ _ _ (by omega), expo_apply, expo_apply, expo_apply, expo_apply]

theorem pack2_apply (x : Vec Ideal S8x2048 .f32) (s : Fin 8) (c : Fin 128) :
    pack2 (F := Ideal) x (ix2 s c) = packAt x 2 (by omega) s c := by
  unfold pack2 packAt
  rw [pack_apply, slice_apply _ _ _ _ _ (by omega), slice_apply _ _ _ _ _ (by omega), slice_apply _ _ _ _ _ (by omega),
    slice_apply _ _ _ _ _ (by omega), expo_apply, expo_apply, expo_apply, expo_apply]

theorem pack3_apply (x : Vec Ideal S8x2048 .f32) (s : Fin 8) (c : Fin 128) :
    pack3 (F := Ideal) x (ix2 s c) = packAt x 3 (by omega) s c := by
  unfold pack3 packAt
  rw [pack_apply, slice_apply _ _ _ _ _ (by omega), slice_apply _ _ _ _ _ (by omega), slice_apply _ _ _ _ _ (by omega),
    slice_apply _ _ _ _ _ (by omega), expo_apply, expo_apply, expo_apply, expo_apply]

/-- The byte a neighbour index picks out of its packed word is that neighbour's exponent. -/
theorem packAt_byte (x : Vec Ideal S8x2048 .f32) (s : Fin 8) (n : ℕ) (hn : n < 2048) :
    (packAt x (n / 512) (by omega) s ⟨n % 128, by omega⟩ >>> (8 * (n / 128 % 4))) &&& 255#32 = expAt x s ⟨n, hn⟩ := by
  unfold packAt
  have h := byte_of_word (Cert.Math.field (x (ix2 s ⟨512 * (n / 512) + n % 128, by omega⟩)))
    (Cert.Math.field (x (ix2 s ⟨512 * (n / 512) + 128 + n % 128, by omega⟩)))
    (Cert.Math.field (x (ix2 s ⟨512 * (n / 512) + 256 + n % 128, by omega⟩)))
    (Cert.Math.field (x (ix2 s ⟨512 * (n / 512) + 384 + n % 128, by omega⟩))) (n / 128 % 4) (by omega)
  refine h.trans ?_
  unfold expAt
  refine congrArg (· &&& 255#32) ?_
  have hx : ∀ (p : ℕ) (hp : p < 2048), p = n →
      Cert.Math.field (x (ix2 s ⟨p, hp⟩)) = Cert.Math.field (x (ix2 s ⟨n, hn⟩)) := fun p hp e => by subst e; rfl
  split
  · exact hx _ _ (by omega)
  · split
    · exact hx _ _ (by omega)
    · split
      · exact hx _ _ (by omega)
      · exact hx _ _ (by omega)

/-- The lane a neighbour index reads. -/
theorem lane_apply (idx : IVec S8x128 32) (s : Fin 8) (l : Fin 128) (h : (idx (ix2 s l)).toNat < 2048) :
    (lane idx (ix2 s l)).toNat = (idx (ix2 s l)).toNat % 128 := by
  unfold lane
  rw [shapeCast_apply _ _ _ (ix3 s l 0) (by rw [Shape.rowMajor_val_three, Shape.rowMajor_val_two]; simp [ix3, ix2]),
    shapeCast_apply _ _ _ (ix2 s l) (by rw [Shape.rowMajor_val_three, Shape.rowMajor_val_two]; simp [ix3, ix2])]
  obtain ⟨h1, h2⟩ := lane_word _ h
  show (Scalar.select (BitVec.ofBool ((idx (ix2 s l) &&& 127#32).slt 0#32)) _ (idx (ix2 s l) &&& 127#32)).toNat = _
  rw [h2]
  exact h1

theorem sel_true {α : Type} (b : Bool) (x y : α) (h : b = true) : Scalar.select (BitVec.ofBool b) x y = x := by
  subst h; exact if_pos rfl

theorem sel_false {α : Type} (b : Bool) (x y : α) (h : b = false) : Scalar.select (BitVec.ofBool b) x y = y := by
  subst h; exact if_neg (by decide)

/-- The packed word a neighbour index picks. -/
theorem pick_apply (idx p0 p1 p2 p3 : IVec S8x128 32) (x : Vec Ideal S8x2048 .f32)
    (h0 : ∀ s c, p0 (ix2 s c) = packAt x 0 (by omega) s c) (h1 : ∀ s c, p1 (ix2 s c) = packAt x 1 (by omega) s c)
    (h2 : ∀ s c, p2 (ix2 s c) = packAt x 2 (by omega) s c) (h3 : ∀ s c, p3 (ix2 s c) = packAt x 3 (by omega) s c)
    (s : Fin 8) (l : Fin 128) (n : ℕ) (hn : n < 2048) (e : (idx (ix2 s l)).toNat = n) :
    pick idx p0 p1 p2 p3 (ix2 s l) = packAt x (n / 512) (by omega) s ⟨n % 128, by omega⟩ := by
  have hg : ∀ p : IVec S8x128 32, dynamicGather 1 p (lane idx) (ix2 s l) = p (ix2 s ⟨n % 128, by omega⟩) := fun p => by
    rw [dynamicGather_apply]
    refine congrArg p (funext fun b => Fin.ext ?_)
    match b with
    | ⟨0, _⟩ => rfl
    | ⟨1, _⟩ =>
      show (lane idx (ix2 s l)).toNat % 128 = n % 128
      rw [lane_apply idx s l (by omega), e, Nat.mod_mod]
  unfold pick
  show Scalar.select (BitVec.ofBool ((idx (ix2 s l)).sshiftRight' 9#32 == 3#32)) (dynamicGather 1 p3 (lane idx) (ix2 s l))
    (Scalar.select (BitVec.ofBool ((idx (ix2 s l)).sshiftRight' 9#32 == 2#32)) (dynamicGather 1 p2 (lane idx) (ix2 s l))
    (Scalar.select (BitVec.ofBool ((idx (ix2 s l)).sshiftRight' 9#32 == 1#32)) (dynamicGather 1 p1 (lane idx) (ix2 s l))
    (Scalar.select (BitVec.ofBool ((idx (ix2 s l)).sshiftRight' 9#32 == 0#32)) (dynamicGather 1 p0 (lane idx) (ix2 s l))
      0#32))) = _
  rw [group_word _ (by omega), e, hg, hg, hg, hg, h0, h1, h2, h3]
  have h4 : ∀ (q : ℕ) (hq : q < 4) (c : Fin 128),
      Scalar.select (BitVec.ofBool (BitVec.ofNat 32 q == 3#32)) (packAt x 3 (by omega) s c)
        (Scalar.select (BitVec.ofBool (BitVec.ofNat 32 q == 2#32)) (packAt x 2 (by omega) s c)
          (Scalar.select (BitVec.ofBool (BitVec.ofNat 32 q == 1#32)) (packAt x 1 (by omega) s c)
            (Scalar.select (BitVec.ofBool (BitVec.ofNat 32 q == 0#32)) (packAt x 0 (by omega) s c) 0#32)))
      = packAt x q hq s c := fun q hq c => by
    interval_cases q
    · rw [sel_false _ _ _ (by decide), sel_false _ _ _ (by decide), sel_false _ _ _ (by decide), sel_true _ _ _ (by decide)]
    · rw [sel_false _ _ _ (by decide), sel_false _ _ _ (by decide), sel_true _ _ _ (by decide)]
    · rw [sel_false _ _ _ (by decide), sel_true _ _ _ (by decide)]
    · rw [sel_true _ _ _ (by decide)]
  exact h4 _ (by omega) _

/-- The scale word of an index: twice the exponent of the neighbour, or zero where there is none. -/
theorem scaleWord_apply (v : Vec Ideal S1x8x128 .i32) (p0 p1 p2 p3 : IVec S8x128 32) (x : Vec Ideal S8x2048 .f32)
    (h0 : ∀ s c, p0 (ix2 s c) = packAt x 0 (by omega) s c) (h1 : ∀ s c, p1 (ix2 s c) = packAt x 1 (by omega) s c)
    (h2 : ∀ s c, p2 (ix2 s c) = packAt x 2 (by omega) s c) (h3 : ∀ s c, p3 (ix2 s c) = packAt x 3 (by omega) s c)
    (s : Fin 8) (l : Fin 128) :
    ((v (ix3 0 s l)).slt 0#32 = true → scaleWord (F := Ideal) v p0 p1 p2 p3 (ix3 0 s l) = 0#32)
    ∧ ∀ (hn : (v (ix3 0 s l)).toNat < 2048), scaleWord (F := Ideal) v p0 p1 p2 p3 (ix3 0 s l)
      = expAt x s ⟨(v (ix3 0 s l)).toNat, hn⟩ * 8388736#32 := by
  have hv : shapeCast S8x128 v shapeCasts_S1x8x128_S8x128 (ix2 s l) = v (ix3 0 s l) :=
    shapeCast_apply _ _ _ (ix3 0 s l) (by rw [Shape.rowMajor_val_three, Shape.rowMajor_val_two]; simp [ix3, ix2])
  have key : scaleWord (F := Ideal) v p0 p1 p2 p3 (ix3 0 s l)
      = Scalar.select (BitVec.ofBool (!(v (ix3 0 s l)).slt 0#32))
          (IntOp.shrui .vector (pick (shapeCast S8x128 v shapeCasts_S1x8x128_S8x128) p0 p1 p2 p3 (ix2 s l))
            ((v (ix3 0 s l)).sshiftRight' 4#32 &&& 24#32) &&& 255#32) 0#32 * 8388736#32 := by
    unfold scaleWord
    rw [shapeCast_apply _ _ _ (ix2 s l) (by rw [Shape.rowMajor_val_three, Shape.rowMajor_val_two]; simp [ix3, ix2])]
    have hb : ∀ n : BitVec 32, (0#32).sle n = !n.slt 0#32 := fun n => BitVec.sle_eq_not_slt
    rw [← hv, ← hb]
    rfl
  rw [key]
  refine ⟨fun h => ?_, fun hn => ?_⟩
  · rw [sel_false _ _ _ (by rw [h]; rfl)]; exact BitVec.zero_mul
  · have hs : (v (ix3 0 s l)).slt 0#32 = false := by
      rw [BitVec.slt_eq_decide, decide_eq_false_iff_not, BitVec.toInt_eq_toNat_of_lt (by omega)]
      simp
    rw [hs, shift_word _ hn, pick_apply _ p0 p1 p2 p3 x h0 h1 h2 h3 s l _ hn (by rw [hv])]
    have hu : ∀ w : BitVec 32, IntOp.shrui .vector w (BitVec.ofNat 32 (8 * ((v (ix3 0 s l)).toNat / 128 % 4)))
        = w >>> (8 * ((v (ix3 0 s l)).toNat / 128 % 4)) := fun w => by
      have ht : (BitVec.ofNat 32 (8 * ((v (ix3 0 s l)).toNat / 128 % 4))).toNat = 8 * ((v (ix3 0 s l)).toNat / 128 % 4) := by
        rw [BitVec.toNat_ofNat]; omega
      unfold IntOp.shrui
      rw [if_pos (by omega), BitVec.ushiftRight_eq', ht]
    rw [hu, packAt_byte x s _ hn, sel_true (!false) _ _ rfl]

/-! ### The scale a scale word stands for -/

/-- The scales the layer is called with: zero, or a power of two from `2 ^ -126` to `2 ^ 30`. -/
def IsScale (v : EReal) : Prop := v = 0 ∨ ∃ k : ℤ, -126 ≤ k ∧ k ≤ 30 ∧ v = (((2 : ℝ) ^ k : ℝ) : EReal)

/-- The exponent of a scale, in both halves of a word, reads as the scale. -/
theorem scale_pattern (v : EReal) (h : IsScale v) (q : ℕ) :
    Ideal.ofBits .bf16 (((Cert.Math.field v &&& 255#32) * 8388736#32).extractLsb' (16 * (q % 2)) 16) = v := by
  rcases h with h | ⟨k, h1, h2, h⟩
  · subst h
    have hf : Cert.Math.field 0 = 0#32 := Cert.Math.field_small 0 (by positivity)
    rw [hf]
    have hz : ((0#32 &&& 255#32) * 8388736#32).extractLsb' (16 * (q % 2)) 16 = 0#16 := by
      apply BitVec.eq_of_toNat_eq; simp
    rw [hz]
    simp [Ideal.ofBits, Ideal.ieee]
  · subst h
    have hf : Cert.Math.field (((2 : ℝ) ^ k : ℝ) : EReal) = BitVec.ofNat 32 (k + 127).toNat := by
      refine Cert.Math.field_normal _ (k + 127).toNat (by omega) (by omega) ?_ ?_
      · exact le_of_eq (congrArg _ (by omega))
      · exact zpow_lt_zpow_right₀ (by norm_num) (by omega)
    have ht : (Cert.Math.field (((2 : ℝ) ^ k : ℝ) : EReal) &&& 255#32).toNat = (k + 127).toNat := by
      rw [hf, BitVec.toNat_and]
      refine (Nat.and_two_pow_sub_one_eq_mod _ 8).trans ?_
      rw [BitVec.toNat_ofNat]; omega
    rw [halves _ (by omega), ht, ofBits_bf16 _ (by omega) (by omega)]
    congr 2
    omega

end Cert.KernelIdeal.Model
-- ==== Proof.Spec.lean ====
/- The layer as a formula of the argument arrays' entries: the entry before quantisation, and the two results the
   kernel's arithmetic makes of a column of them. -/
module

public import proofs.«01_k».proof.Proof.Quantise

@[expose] public section

noncomputable section

namespace Cert.Math

open Idealize.ShloMosaic

/-- The scale of the neighbour with index word `n` among the scales `x` of its sequence: zero where there is none. -/
def nbScale (x : Fin 2048 → EReal) (n : BitVec 32) : EReal :=
  if n.slt 0#32 then 0 else if h : n.toNat < 2048 then x ⟨n.toNat, h⟩ else 0

/-- The fp8 value in byte `j` of a word. -/
def byteVal (w : BitVec 32) (j : ℕ) : EReal := Ideal.ofBits .fp8e4m3 (w.extractLsb' (8 * j) 8)

/-- The six argument arrays by coordinates. -/
structure Args where
  scale : Fin 24 → Fin 2048 → EReal
  nbr : Fin 24 → Fin 2048 → Fin 27 → BitVec 32
  words : Fin 24 → Fin 16 → Fin 54 → Fin 8 → Fin 128 → BitVec 32
  weight : Fin 27 → Fin 64 → Fin 80 → EReal
  wscale : Fin 80 → EReal
  bias : Fin 80 → EReal

/-- The fp8 value of channel `c` of the gathered row of output `t` of sequence `b`. -/
def Args.code (A : Args) (b : Fin 24) (t : Fin 2048) (c : Fin 1728) : EReal :=
  byteVal (A.words b ⟨t.val / 128, by omega⟩ ⟨c.val / 32, by omega⟩ ⟨c.val % 32 / 4, by omega⟩ ⟨t.val % 128, by omega⟩)
    (c.val % 32 % 4)

/-- The gathered, dequantised channel. -/
def Args.chan (A : Args) (b : Fin 24) (t : Fin 2048) (c : Fin 1728) : EReal :=
  A.code b t c * nbScale (A.scale b) (A.nbr b t ⟨c.val / 64, by omega⟩)

/-- The weight of channel `c` for output channel `o`. -/
def Args.wt (A : Args) (o : Fin 80) (c : Fin 1728) : EReal := A.weight ⟨c.val / 64, by omega⟩ ⟨c.val % 64, by omega⟩ o

/-- The entry before quantisation. -/
def Args.y (A : Args) (b : Fin 24) (t : Fin 2048) (o : Fin 80) : EReal :=
  max ((∑ c : Fin 1728, A.wt o c * A.chan b t c) * A.wscale o + A.bias o) 0

open Cert.KernelIdeal.Model (top recip)

/-- The quantised entry, scaled by the power of two the exponent search found. -/
def outQ (y : Fin 80 → EReal) (o : Fin 80) : EReal :=
  min (Ideal.ofBits .f32 0x43E00000#32) (max (Ideal.ofBits .f32 0xC3E00000#32)
    (y o * Ideal.ofBits .f32 ((254#32 - kexp (top y) recip) <<< 23)))

/-- The scale written for a column. -/
def outS (y : Fin 80 → EReal) : EReal := Ideal.ofBits .f32 (kexp (top y) recip <<< 23)

end Cert.Math
-- ==== Proof.RunDefs.lean ====
/- What the two printed runs load and store, in terms of the blocks of Model.lean. -/
module

public import proofs.«01_k».proof.Proof.Model
public import proofs.«01_k».proof.Proof.Gen.KernelIdeal.Frame

@[expose] public section

set_option maxRecDepth 16384

noncomputable section

namespace Cert.KernelIdeal.RunEq

open Idealize.ShloMosaic Idealize.ShloMosaic.TcCoe Idealize.ShloMosaic.Tactic Idealize.SL.Sem
open Cert.KernelIdeal.Gen Cert.KernelIdeal.Model

variable {F : FTy → Type} [FloatOps F]

theorem inbT (k s : ℕ) (hk : k < 27) (hs : s < 8) :
    ∀ a, (![k, s, 0] : Fin 3 → Nat) a + S1x1x128.size a ≤ S27x8x128.size a := by
  intro a; fin_cases a <;> simp [S1x1x128, S27x8x128] <;> omega

theorem inbI (k : ℕ) (hk : k < 27) :
    ∀ a, (![k, 0, 0] : Fin 3 → Nat) a + S1x8x128.size a ≤ S27x8x128.size a := by
  intro a; fin_cases a <;> simp [S1x8x128, S27x8x128] <;> omega

theorem inbG (s j : ℕ) (hs : s < 8) (hj : j < 54) :
    ∀ a, (![s, 0, j, 0, 0] : Fin 5 → Nat) a + S1x1x1x8x128.size a ≤ S8x1x54x8x128.size a := by
  intro a; fin_cases a <;> simp [S1x1x1x8x128, S8x1x54x8x128] <;> omega

theorem inbW (j : ℕ) (hj : j < 6) :
    ∀ a, (![0, 256 * j] : Fin 2 → Nat) a + S80x256.size a ≤ S80x1728.size a := by
  intro a; fin_cases a <;> simp [S80x256, S80x1728] <;> omega

/-- The indices of neighbour position `k`. -/
def ldI (arg3 : Memref sig .tc .vmem S27x8x128 .i32) (harg3 : arg3.IsWhole) (x1 : Vec F S27x8x128 .i32)
    (k : ℕ) (hk : k < 27) : Vec F S1x8x128 .i32 :=
  View.readAt (Elt F) arg3.view (Rect.unit (s := S27x8x128) ![k, 0, 0] S1x8x128.size (inbI k hk)).toLoadRect (harg3.unread x1)

/-- The code words of tile `j` of sequence `s`. -/
def ldG (arg4 : Memref sig .tc .vmem S8x1x54x8x128 .i32) (harg4 : arg4.IsWhole) (x2 : Vec F S8x1x54x8x128 .i32)
    (s : ℕ) (hs : s < 8) (j : Fin 54) : Vec F S1x1x1x8x128 .i32 :=
  View.readAt (Elt F) arg4.view (Rect.unit (s := S8x1x54x8x128) ![s, 0, j.val, 0, 0] S1x1x1x8x128.size (inbG s j.val hs j.isLt)).toLoadRect
    (harg4.unread x2)

/-- Block `j` of the weights. -/
def ldW (arg5 : Memref sig .tc .vmem S80x1728 .bf16) (harg5 : arg5.IsWhole) (x3 : Vec F S80x1728 .bf16)
    (j : Fin 6) : Vec F S80x256 .bf16 :=
  View.readAt (Elt F) arg5.view (Rect.unit (s := S80x1728) ![0, 256 * j.val] S80x256.size (inbW j.val j.isLt)).toLoadRect
    (harg5.unread x3)

/-- The last block of the weights. -/
def ldW6 (arg5 : Memref sig .tc .vmem S80x1728 .bf16) (harg5 : arg5.IsWhole) (x3 : Vec F S80x1728 .bf16) :
    Vec F S80x192 .bf16 :=
  View.readAt (Elt F) arg5.view (Rect.unit (s := S80x1728) ![0, 1536] S80x192.size inb_S80x1728_S80x192_0_1536).toLoadRect
    (harg5.unread x3)

/-- A whole array of output scales or biases. -/
def ldB (arg6 : Memref sig .tc .vmem S80x128 .f32) (harg6 : arg6.IsWhole) (x4 : Vec F S80x128 .f32) :
    Vec F S80x128 .f32 :=
  View.readAt (Elt F) arg6.view (Rect.unit (s := S80x128) ![0, 0] S80x128.size inb_S80x128_S80x128_0_0).toLoadRect
    (harg6.unread x4)

/-- The scale words of neighbour position `k` of sequence `s`, as read back from the stores `HS`. -/
def rcS (arg11 : Memref sig .tc .vmem S27x8x128 .i32) (HS : List (View.Piece (Elt F) S27x8x128 .i32))
    (s : ℕ) (hs : s < 8) (k : Fin 27) : Vec F S1x1x128 .i32 :=
  arg11.view.readCov HS (Rect.unit (s := S27x8x128) ![k.val, s, 0] S1x1x128.size (inbT k.val s k.isLt hs)).toLoadRect

/-- The store of the scale words of neighbour position `k`. -/
def pieceS (k : ℕ) (hk : k < 27) (v : Vec F S1x8x128 .i32) : View.Piece (Elt F) S27x8x128 .i32 :=
  ⟨Rect.unit (s := S27x8x128) ![k, 0, 0] S1x8x128.size (inbI k hk), v⟩

/-- Every store of scale words, the last first. -/
def piecesS (w : (k : ℕ) → k < 27 → Vec F S1x8x128 .i32) : List (View.Piece (Elt F) S27x8x128 .i32) :=
  [pieceS 26 (by omega) (w 26 (by omega)), pieceS 25 (by omega) (w 25 (by omega)), pieceS 24 (by omega) (w 24 (by omega)), pieceS 23 (by omega) (w 23 (by omega)), pieceS 22 (by omega) (w 22 (by omega)), pieceS 21 (by omega) (w 21 (by omega)), pieceS 20 (by omega) (w 20 (by omega)), pieceS 19 (by omega) (w 19 (by omega)), pieceS 18 (by omega) (w 18 (by omega)), pieceS 17 (by omega) (w 17 (by omega)), pieceS 16 (by omega) (w 16 (by omega)), pieceS 15 (by omega) (w 15 (by omega)), pieceS 14 (by omega) (w 14 (by omega)), pieceS 13 (by omega) (w 13 (by omega)), pieceS 12 (by omega) (w 12 (by omega)), pieceS 11 (by omega) (w 11 (by omega)), pieceS 10 (by omega) (w 10 (by omega)), pieceS 9 (by omega) (w 9 (by omega)), pieceS 8 (by omega) (w 8 (by omega)), pieceS 7 (by omega) (w 7 (by omega)), pieceS 6 (by omega) (w 6 (by omega)), pieceS 5 (by omega) (w 5 (by omega)), pieceS 4 (by omega) (w 4 (by omega)), pieceS 3 (by omega) (w 3 (by omega)), pieceS 2 (by omega) (w 2 (by omega)), pieceS 1 (by omega) (w 1 (by omega)), pieceS 0 (by omega) (w 0 (by omega))]

/-- The entries before quantisation of sequence `2 p`. -/
def yLeft (sc : (s : ℕ) → s < 8 → Fin 27 → Vec F S1x1x128 .i32) (gw : (s : ℕ) → s < 8 → Fin 54 → Vec F S1x1x1x8x128 .i32)
    (w : Fin 6 → Vec F S80x256 .bf16) (w6 : Vec F S80x192 .bf16) (ws b : Vec F S80x128 .f32) (p q : ℕ) (hp : p < 8)
    (hq : q < 8) : FVec F S80x128 .f32 :=
  relu (left (accum (sc p hp) (sc q hq) (gw p hp) (gw q hq) w w6)) ws b

/-- The entries before quantisation of sequence `2 p + 1`. -/
def yRight (sc : (s : ℕ) → s < 8 → Fin 27 → Vec F S1x1x128 .i32) (gw : (s : ℕ) → s < 8 → Fin 54 → Vec F S1x1x1x8x128 .i32)
    (w : Fin 6 → Vec F S80x256 .bf16) (w6 : Vec F S80x192 .bf16) (ws b : Vec F S80x128 .f32) (p q : ℕ) (hp : p < 8)
    (hq : q < 8) : FVec F S80x128 .f32 :=
  relu (right (accum (sc p hp) (sc q hq) (gw p hp) (gw q hq) w w6)) ws b

/-- The eight stores of quantised entries, the last first. -/
def pieces6 (y : (s : ℕ) → s < 8 → FVec F S80x128 .f32) : List (View.Piece (Elt F) S8x80x128 .fp8e4m3) :=
  [⟨Rect.unit (s := S8x80x128) ![7, 0, 0] S1x80x128.size inb_S8x80x128_S1x80x128_7_0_0, quant (y 7 (by omega))⟩,
   ⟨Rect.unit (s := S8x80x128) ![6, 0, 0] S1x80x128.size inb_S8x80x128_S1x80x128_6_0_0, quant (y 6 (by omega))⟩,
   ⟨Rect.unit (s := S8x80x128) ![5, 0, 0] S1x80x128.size inb_S8x80x128_S1x80x128_5_0_0, quant (y 5 (by omega))⟩,
   ⟨Rect.unit (s := S8x80x128) ![4, 0, 0] S1x80x128.size inb_S8x80x128_S1x80x128_4_0_0, quant (y 4 (by omega))⟩,
   ⟨Rect.unit (s := S8x80x128) ![3, 0, 0] S1x80x128.size inb_S8x80x128_S1x80x128_3_0_0, quant (y 3 (by omega))⟩,
   ⟨Rect.unit (s := S8x80x128) ![2, 0, 0] S1x80x128.size inb_S8x80x128_S1x80x128_2_0_0, quant (y 2 (by omega))⟩,
   ⟨Rect.unit (s := S8x80x128) ![1, 0, 0] S1x80x128.size inb_S8x80x128_S1x80x128_1_0_0, quant (y 1 (by omega))⟩,
   ⟨Rect.unit (s := S8x80x128) ![0, 0, 0] S1x80x128.size inb_S8x80x128_S1x80x128_0_0_0, quant (y 0 (by omega))⟩]

/-- The eight stores of scales, the last first. -/
def pieces7 (y : (s : ℕ) → s < 8 → FVec F S80x128 .f32) : List (View.Piece (Elt F) S8x128 .f32) :=
  [⟨Rect.unit (s := S8x128) ![7, 0] S1x128.size inb_S8x128_S1x128_7_0, scaleOut (y 7 (by omega))⟩,
   ⟨Rect.unit (s := S8x128) ![6, 0] S1x128.size inb_S8x128_S1x128_6_0, scaleOut (y 6 (by omega))⟩,
   ⟨Rect.unit (s := S8x128) ![5, 0] S1x128.size inb_S8x128_S1x128_5_0, scaleOut (y 5 (by omega))⟩,
   ⟨Rect.unit (s := S8x128) ![4, 0] S1x128.size inb_S8x128_S1x128_4_0, scaleOut (y 4 (by omega))⟩,
   ⟨Rect.unit (s := S8x128) ![3, 0] S1x128.size inb_S8x128_S1x128_3_0, scaleOut (y 3 (by omega))⟩,
   ⟨Rect.unit (s := S8x128) ![2, 0] S1x128.size inb_S8x128_S1x128_2_0, scaleOut (y 2 (by omega))⟩,
   ⟨Rect.unit (s := S8x128) ![1, 0] S1x128.size inb_S8x128_S1x128_1_0, scaleOut (y 1 (by omega))⟩,
   ⟨Rect.unit (s := S8x128) ![0, 0] S1x128.size inb_S8x128_S1x128_0_0, scaleOut (y 0 (by omega))⟩]

/-- The entries before quantisation of each of the eight sequences. -/
def yAll (sc : (s : ℕ) → s < 8 → Fin 27 → Vec F S1x1x128 .i32) (gw : (s : ℕ) → s < 8 → Fin 54 → Vec F S1x1x1x8x128 .i32)
    (w : Fin 6 → Vec F S80x256 .bf16) (w6 : Vec F S80x192 .bf16) (ws b : Vec F S80x128 .f32) :
    (s : ℕ) → s < 8 → FVec F S80x128 .f32
  | 0, _ => yLeft sc gw w w6 ws b 0 1 (by omega) (by omega)
  | 1, _ => yRight sc gw w w6 ws b 0 1 (by omega) (by omega)
  | 2, _ => yLeft sc gw w w6 ws b 2 3 (by omega) (by omega)
  | 3, _ => yRight sc gw w w6 ws b 2 3 (by omega) (by omega)
  | 4, _ => yLeft sc gw w w6 ws b 4 5 (by omega) (by omega)
  | 5, _ => yRight sc gw w w6 ws b 4 5 (by omega) (by omega)
  | 6, _ => yLeft sc gw w w6 ws b 6 7 (by omega) (by omega)
  | 7, _ => yRight sc gw w w6 ws b 6 7 (by omega) (by omega)
  | _ + 8, h => absurd h (by omega)

/-- The four exponent words the later points read. -/
def ldP (arg10 : Memref sig .tc .vmem S8x512 .i32) (harg10 : arg10.IsWhole) (xs0 : Vec F S8x512 .i32) (g : ℕ)
    (hg : ∀ a, (![0, g] : Fin 2 → Nat) a + S8x128.size a ≤ S8x512.size a) : Vec F S8x128 .i32 :=
  View.readAt (Elt F) arg10.view (Rect.unit (s := S8x512) ![0, g] S8x128.size hg).toLoadRect (harg10.unread xs0)

/-- The four exponent words the first point reads back from its own stores. -/
def rcP (arg10 : Memref sig .tc .vmem S8x512 .i32) (HS : List (View.Piece (Elt F) S8x512 .i32)) (g : ℕ)
    (hg : ∀ a, (![0, g] : Fin 2 → Nat) a + S8x128.size a ≤ S8x512.size a) : Vec F S8x128 .i32 :=
  arg10.view.readCov HS (Rect.unit (s := S8x512) ![0, g] S8x128.size hg).toLoadRect

/-- The eight rows of scales. -/
def ldX (arg2 : Memref sig .tc .vmem S8x2048 .f32) (harg2 : arg2.IsWhole) (x0 : Vec F S8x2048 .f32) :
    Vec F S8x2048 .f32 :=
  View.readAt (Elt F) arg2.view (Rect.unit (s := S8x2048) ![0, 0] S8x2048.size inb_S8x2048_S8x2048_0_0).toLoadRect
    (harg2.unread x0)

/-- The four stores of packed exponents. -/
def pieces10 (x0 : Vec F S8x2048 .f32) : List (View.Piece (Elt F) S8x512 .i32) :=
  [⟨Rect.unit (s := S8x512) ![0, 384] S8x128.size inb_S8x512_S8x128_0_384, pack3 x0⟩,
   ⟨Rect.unit (s := S8x512) ![0, 256] S8x128.size inb_S8x512_S8x128_0_256, pack2 x0⟩,
   ⟨Rect.unit (s := S8x512) ![0, 128] S8x128.size inb_S8x512_S8x128_0_128, pack1 x0⟩,
   ⟨Rect.unit (s := S8x512) ![0, 0] S8x128.size inb_S8x512_S8x128_0_0, pack0 x0⟩]

end Cert.KernelIdeal.RunEq
-- ==== Proof.RunA.lean ====
/- The stores of the printed run of the first point are the blocks of Model.lean: the scale words a run writes, and the quantised
   entries and scales it writes from them. -/
module

public import proofs.«01_k».proof.Proof.RunDefs
public import proofs.«01_k».proof.Proof.Gen.KernelIdeal.Frame

@[expose] public section

set_option maxRecDepth 16384

noncomputable section

namespace Cert.KernelIdeal.RunEq

open Idealize.ShloMosaic Idealize.ShloMosaic.TcCoe Idealize.ShloMosaic.Tactic Idealize.SL.Sem
open Cert.KernelIdeal.Gen Cert.KernelIdeal.Model

variable {F : FTy → Type} [FloatOps F]

namespace A

variable (c : Dev nD) (i : grid0.Coords) (arg2 : Memref sig .tc .vmem S8x2048 .f32) (harg2 : arg2.IsWhole) (arg3 : Memref sig .tc .vmem S27x8x128 .i32) (harg3 : arg3.IsWhole) (arg4 : Memref sig .tc .vmem S8x1x54x8x128 .i32) (harg4 : arg4.IsWhole) (arg5 : Memref sig .tc .vmem S80x1728 .bf16) (harg5 : arg5.IsWhole) (arg6 : Memref sig .tc .vmem S80x128 .f32) (harg6 : arg6.IsWhole) (arg7 : Memref sig .tc .vmem S80x128 .f32) (harg7 : arg7.IsWhole) (arg8 : Memref sig .tc .vmem S8x80x128 .fp8e4m3) (harg8 : arg8.IsWhole) (arg9 : Memref sig .tc .vmem S8x128 .f32) (harg9 : arg9.IsWhole) (arg10 : Memref sig .tc .vmem S8x512 .i32) (harg10 : arg10.IsWhole) (arg11 : Memref sig .tc .vmem S27x8x128 .i32) (harg11 : arg11.IsWhole) (hc0 : cond0_0 i)
  (x0 : Vec F S8x2048 .f32) (x1 : Vec F S27x8x128 .i32) (x2 : Vec F S8x1x54x8x128 .i32) (x3 : Vec F S80x1728 .bf16) (x4 : Vec F S80x128 .f32) (x5 : Vec F S80x128 .f32)

theorem stores10 : (kernelRun0_A c i arg2 harg2 arg3 harg3 arg4 harg4 arg5 harg5 arg6 harg6 arg7 harg7 arg8 harg8 arg9 harg9 arg10 harg10 arg11 harg11 hc0 x0 x1 x2 x3 x4 x5).2.2.1 = pieces10 (ldX arg2 harg2 x0) := by
  sl_kernel_rfl

theorem stores11 : (kernelRun0_A c i arg2 harg2 arg3 harg3 arg4 harg4 arg5 harg5 arg6 harg6 arg7 harg7 arg8 harg8 arg9 harg9 arg10 harg10 arg11 harg11 hc0 x0 x1 x2 x3 x4 x5).2.2.2.1 =
    piecesS (fun k hk => scaleWord (ldI arg3 harg3 x1 k hk) (rcP arg10 (pieces10 (ldX arg2 harg2 x0)) 0 inb_S8x512_S8x128_0_0) (rcP arg10 (pieces10 (ldX arg2 harg2 x0)) 128 inb_S8x512_S8x128_0_128) (rcP arg10 (pieces10 (ldX arg2 harg2 x0)) 256 inb_S8x512_S8x128_0_256) (rcP arg10 (pieces10 (ldX arg2 harg2 x0)) 384 inb_S8x512_S8x128_0_384)) := by
  sl_kernel_rfl

/-- The entries before quantisation the run computes. -/
def ys : (s : ℕ) → s < 8 → FVec F S80x128 .f32 :=
  yAll (rcS arg11 (piecesS (fun k hk => scaleWord (ldI arg3 harg3 x1 k hk) (rcP arg10 (pieces10 (ldX arg2 harg2 x0)) 0 inb_S8x512_S8x128_0_0) (rcP arg10 (pieces10 (ldX arg2 harg2 x0)) 128 inb_S8x512_S8x128_0_128) (rcP arg10 (pieces10 (ldX arg2 harg2 x0)) 256 inb_S8x512_S8x128_0_256) (rcP arg10 (pieces10 (ldX arg2 harg2 x0)) 384 inb_S8x512_S8x128_0_384))))
    (ldG arg4 harg4 x2) (ldW arg5 harg5 x3) (ldW6 arg5 harg5 x3) (ldB arg6 harg6 x4) (ldB arg7 harg7 x5)

theorem stores6 : (kernelRun0_A c i arg2 harg2 arg3 harg3 arg4 harg4 arg5 harg5 arg6 harg6 arg7 harg7 arg8 harg8 arg9 harg9 arg10 harg10 arg11 harg11 hc0 x0 x1 x2 x3 x4 x5).1 = pieces6 (ys  arg2 harg2 arg3 harg3 arg4 harg4 arg5 harg5 arg6 harg6 arg7 harg7 arg10 arg11 x0 x1 x2 x3 x4 x5) := by
  sl_kernel_rfl

theorem stores7 : (kernelRun0_A c i arg2 harg2 arg3 harg3 arg4 harg4 arg5 harg5 arg6 harg6 arg7 harg7 arg8 harg8 arg9 harg9 arg10 harg10 arg11 harg11 hc0 x0 x1 x2 x3 x4 x5).2.1 = pieces7 (ys  arg2 harg2 arg3 harg3 arg4 harg4 arg5 harg5 arg6 harg6 arg7 harg7 arg10 arg11 x0 x1 x2 x3 x4 x5) := by
  sl_kernel_rfl

end A

end Cert.KernelIdeal.RunEq
-- ==== Proof.RunB.lean ====
/- The stores of the printed run of every later point are the blocks of Model.lean: the scale words a run writes, and the quantised
   entries and scales it writes from them. -/
module

public import proofs.«01_k».proof.Proof.RunDefs
public import proofs.«01_k».proof.Proof.Gen.KernelIdeal.Frame

@[expose] public section

set_option maxRecDepth 16384

noncomputable section

namespace Cert.KernelIdeal.RunEq

open Idealize.ShloMosaic Idealize.ShloMosaic.TcCoe Idealize.ShloMosaic.Tactic Idealize.SL.Sem
open Cert.KernelIdeal.Gen Cert.KernelIdeal.Model

variable {F : FTy → Type} [FloatOps F]

namespace B

variable (c : Dev nD) (i : grid0.Coords) (arg2 : Memref sig .tc .vmem S8x2048 .f32) (harg2 : arg2.IsWhole) (arg3 : Memref sig .tc .vmem S27x8x128 .i32) (harg3 : arg3.IsWhole) (arg4 : Memref sig .tc .vmem S8x1x54x8x128 .i32) (harg4 : arg4.IsWhole) (arg5 : Memref sig .tc .vmem S80x1728 .bf16) (harg5 : arg5.IsWhole) (arg6 : Memref sig .tc .vmem S80x128 .f32) (harg6 : arg6.IsWhole) (arg7 : Memref sig .tc .vmem S80x128 .f32) (harg7 : arg7.IsWhole) (arg8 : Memref sig .tc .vmem S8x80x128 .fp8e4m3) (harg8 : arg8.IsWhole) (arg9 : Memref sig .tc .vmem S8x128 .f32) (harg9 : arg9.IsWhole) (arg10 : Memref sig .tc .vmem S8x512 .i32) (harg10 : arg10.IsWhole) (arg11 : Memref sig .tc .vmem S27x8x128 .i32) (harg11 : arg11.IsWhole) (hc0 : ¬cond0_0 i)
  (x0 : Vec F S8x2048 .f32) (x1 : Vec F S27x8x128 .i32) (x2 : Vec F S8x1x54x8x128 .i32) (x3 : Vec F S80x1728 .bf16) (x4 : Vec F S80x128 .f32) (x5 : Vec F S80x128 .f32) (xs0 : Vec F S8x512 .i32)

theorem stores11 : (kernelRun0_B c i arg2 harg2 arg3 harg3 arg4 harg4 arg5 harg5 arg6 harg6 arg7 harg7 arg8 harg8 arg9 harg9 arg10 harg10 arg11 harg11 hc0 x0 x1 x2 x3 x4 x5 xs0).2.2.2.1 =
    piecesS (fun k hk => scaleWord (ldI arg3 harg3 x1 k hk) (ldP arg10 harg10 xs0 0 inb_S8x512_S8x128_0_0) (ldP arg10 harg10 xs0 128 inb_S8x512_S8x128_0_128) (ldP arg10 harg10 xs0 256 inb_S8x512_S8x128_0_256) (ldP arg10 harg10 xs0 384 inb_S8x512_S8x128_0_384)) := by
  sl_kernel_rfl

/-- The entries before quantisation the run computes. -/
def ys : (s : ℕ) → s < 8 → FVec F S80x128 .f32 :=
  yAll (rcS arg11 (piecesS (fun k hk => scaleWord (ldI arg3 harg3 x1 k hk) (ldP arg10 harg10 xs0 0 inb_S8x512_S8x128_0_0) (ldP arg10 harg10 xs0 128 inb_S8x512_S8x128_0_128) (ldP arg10 harg10 xs0 256 inb_S8x512_S8x128_0_256) (ldP arg10 harg10 xs0 384 inb_S8x512_S8x128_0_384))))
    (ldG arg4 harg4 x2) (ldW arg5 harg5 x3) (ldW6 arg5 harg5 x3) (ldB arg6 harg6 x4) (ldB arg7 harg7 x5)

theorem stores6 : (kernelRun0_B c i arg2 harg2 arg3 harg3 arg4 harg4 arg5 harg5 arg6 harg6 arg7 harg7 arg8 harg8 arg9 harg9 arg10 harg10 arg11 harg11 hc0 x0 x1 x2 x3 x4 x5 xs0).1 = pieces6 (ys  arg3 harg3 arg4 harg4 arg5 harg5 arg6 harg6 arg7 harg7 arg10 harg10 arg11 x1 x2 x3 x4 x5 xs0) := by
  sl_kernel_rfl

theorem stores7 : (kernelRun0_B c i arg2 harg2 arg3 harg3 arg4 harg4 arg5 harg5 arg6 harg6 arg7 harg7 arg8 harg8 arg9 harg9 arg10 harg10 arg11 harg11 hc0 x0 x1 x2 x3 x4 x5 xs0).2.1 = pieces7 (ys  arg3 harg3 arg4 harg4 arg5 harg5 arg6 harg6 arg7 harg7 arg10 harg10 arg11 x1 x2 x3 x4 x5 xs0) := by
  sl_kernel_rfl

end B

end Cert.KernelIdeal.RunEq
-- ==== Proof.Point.lean ====
/- The blocks a grid point leaves, at an entry: the loads and the read-backs of its stores, and the two results in
   terms of the blocks the point is given. -/
module

public import proofs.«01_k».proof.Proof.Words
public import proofs.«01_k».proof.Proof.Spec
public import proofs.«01_k».proof.Proof.RunA
public import proofs.«01_k».proof.Proof.RunB
public import Idealize.ShloMosaic.Lib.Pipeline.ValueKit

@[expose] public section

noncomputable section

namespace Cert.KernelIdeal.Point

open Idealize.ShloMosaic Idealize.ShloMosaic.Tactic Idealize.SL.Sem Cert.KernelIdeal.Gen Cert.KernelIdeal.Model Cert.KernelIdeal.RunEq
open Cert.Math (outQ outS)

/-- The scale of the neighbour `n` (an index word) of sequence `s`: zero where there is none. -/
def nb (x0 : Vec Ideal S8x2048 .f32) (n : BitVec 32) (s : Fin 8) : EReal := Cert.Math.nbScale (fun n => x0 (ix2 s n)) n

/-- What the blocks must satisfy: the scales are scales, and an index is negative or below 2048. -/
structure Good (x0 : Vec Ideal S8x2048 .f32) (x1 : Vec Ideal S27x8x128 .i32) : Prop where
  scale : ∀ s n, IsScale (x0 (ix2 s n))
  index : ∀ k s l, (x1 (ix3 k s l)).slt 0#32 = true ∨ (x1 (ix3 k s l)).toNat < 2048

/-- Channel `c` of the gathered row of output lane `l` of sequence `s`. -/
def chan (x0 : Vec Ideal S8x2048 .f32) (x1 : Vec Ideal S27x8x128 .i32) (x2 : Vec Ideal S8x1x54x8x128 .i32)
    (s : Fin 8) (l : Fin 128) (c : Fin 1728) : EReal :=
  Cert.Math.byteVal (x2 (ix5 s 0 ⟨c.val / 32, by omega⟩ ⟨c.val % 32 / 4, by omega⟩ l)) (c.val % 32 % 4)
    * nb x0 (x1 (ix3 ⟨c.val / 64, by omega⟩ s l)) s

/-- The entry before quantisation. -/
def pre (x0 : Vec Ideal S8x2048 .f32) (x1 : Vec Ideal S27x8x128 .i32) (x2 : Vec Ideal S8x1x54x8x128 .i32)
    (x3 : Vec Ideal S80x1728 .bf16) (x4 x5 : Vec Ideal S80x128 .f32) (s : Fin 8) (l : Fin 128) (o : Fin 80) : EReal :=
  max ((∑ c : Fin 1728, (x3 (ix2 o c) : EReal) * chan x0 x1 x2 s l c) * x4 (ix2 o l) + x5 (ix2 o l)) 0

theorem yAll_apply (sc : (s : ℕ) → s < 8 → Fin 27 → Vec Ideal S1x1x128 .i32)
    (gw : (s : ℕ) → s < 8 → Fin 54 → Vec Ideal S1x1x1x8x128 .i32)
    (w : Fin 6 → Vec Ideal S80x256 .bf16) (w6 : Vec Ideal S80x192 .bf16) (ws b : Vec Ideal S80x128 .f32)
    (x0 : Vec Ideal S8x2048 .f32) (x1 : Vec Ideal S27x8x128 .i32) (x2 : Vec Ideal S8x1x54x8x128 .i32)
    (x3 : Vec Ideal S80x1728 .bf16) (x4 x5 : Vec Ideal S80x128 .f32)
    (hsc : ∀ s hs k l q, Ideal.ofBits .bf16 ((sc s hs k (ix3 0 0 l)).extractLsb' (16 * (q % 2)) 16)
      = nb x0 (x1 (ix3 k ⟨s, hs⟩ l)) ⟨s, hs⟩)
    (hgw : ∀ s hs j r l, gw s hs j (ix5 0 0 0 r l) = x2 (ix5 ⟨s, hs⟩ 0 j r l))
    (hw : ∀ (j : Fin 6) (o : Fin 80) (q : Fin 256), w j (ix2 o q) = x3 (ix2 o ⟨256 * j.val + q.val, by omega⟩))
    (hw6 : ∀ (o : Fin 80) (q : Fin 192), w6 (ix2 o q) = x3 (ix2 o ⟨1536 + q.val, by omega⟩))
    (h4 : ws = x4) (h5 : b = x5) (s : ℕ) (hs : s < 8) (o : Fin 80) (l : Fin 128) :
    yAll sc gw w w6 ws b s hs (ix2 o l) = pre x0 x1 x2 x3 x4 x5 ⟨s, hs⟩ l o := by
  subst h4 h5
  have ht : ∀ (s : ℕ) (hs : s < 8) (c : Fin 1728), term (sc s hs) (gw s hs) l c.val c.isLt = chan x0 x1 x2 ⟨s, hs⟩ l c := by
    intro s hs c
    unfold term chan codeVal scaleVal Cert.Math.byteVal
    rw [hsc, hgw]
  have hl : ∀ p q hp hq, yLeft sc gw w w6 ws b p q hp hq (ix2 o l) = pre x0 x1 x2 x3 ws b ⟨p, hp⟩ l o := by
    intro p q hp hq
    unfold yLeft pre
    rw [relu_apply, left_accum _ _ _ _ _ _ (fun o c => x3 (ix2 o c)) hw hw6]
    simp only [ht]
  have hr : ∀ p q hp hq, yRight sc gw w w6 ws b p q hp hq (ix2 o l) = pre x0 x1 x2 x3 ws b ⟨q, hq⟩ l o := by
    intro p q hp hq
    unfold yRight pre
    rw [relu_apply, right_accum _ _ _ _ _ _ (fun o c => x3 (ix2 o c)) hw hw6]
    simp only [ht]
  interval_cases s
  · exact hl 0 1 _ _
  · exact hr 0 1 _ _
  · exact hl 2 3 _ _
  · exact hr 2 3 _ _
  · exact hl 4 5 _ _
  · exact hr 4 5 _ _
  · exact hl 6 7 _ _
  · exact hr 6 7 _ _

/-! ### Loads -/

variable (arg2 : Memref sig .tc .vmem S8x2048 .f32) (harg2 : arg2.IsWhole)
  (arg3 : Memref sig .tc .vmem S27x8x128 .i32) (harg3 : arg3.IsWhole)
  (arg4 : Memref sig .tc .vmem S8x1x54x8x128 .i32) (harg4 : arg4.IsWhole)
  (arg5 : Memref sig .tc .vmem S80x1728 .bf16) (harg5 : arg5.IsWhole)
  (arg6 : Memref sig .tc .vmem S80x128 .f32) (harg6 : arg6.IsWhole)
  (arg10 : Memref sig .tc .vmem S8x512 .i32) (harg10 : arg10.IsWhole)
  (arg11 : Memref sig .tc .vmem S27x8x128 .i32)

theorem ldX_eq (x0 : Vec Ideal S8x2048 .f32) : ldX arg2 harg2 x0 = x0 := by
  funext i
  unfold ldX
  rw [View.readAt_eq_ld, harg2.read_unread]
  exact View.ld_unit_apply_of x0 _ _ _ _ i (fun a => by fin_cases a <;> simp)

theorem ldB_eq (x4 : Vec Ideal S80x128 .f32) : ldB arg6 harg6 x4 = x4 := by
  funext i
  unfold ldB
  rw [View.readAt_eq_ld, harg6.read_unread]
  exact View.ld_unit_apply_of x4 _ _ _ _ i (fun a => by fin_cases a <;> simp)

theorem ldI_apply (x1 : Vec Ideal S27x8x128 .i32) (k : ℕ) (hk : k < 27) (s : Fin 8) (l : Fin 128) :
    ldI arg3 harg3 x1 k hk (ix3 0 s l) = x1 (ix3 ⟨k, hk⟩ s l) := by
  unfold ldI
  rw [View.readAt_eq_ld, harg3.read_unread]
  exact View.ld_unit_apply_of x1 _ _ _ _ _ (fun a => by fin_cases a <;> simp [ix3])

theorem ldG_apply (x2 : Vec Ideal S8x1x54x8x128 .i32) (s : ℕ) (hs : s < 8) (j : Fin 54) (r : Fin 8) (l : Fin 128) :
    ldG arg4 harg4 x2 s hs j (ix5 0 0 0 r l) = x2 (ix5 ⟨s, hs⟩ 0 j r l) := by
  unfold ldG
  rw [View.readAt_eq_ld, harg4.read_unread]
  exact View.ld_unit_apply_of x2 _ _ _ _ _ (fun a => by fin_cases a <;> simp [ix5])

theorem ldW_apply (x3 : Vec Ideal S80x1728 .bf16) (j : Fin 6) (o : Fin 80) (q : Fin 256) :
    ldW arg5 harg5 x3 j (ix2 o q) = x3 (ix2 o ⟨256 * j.val + q.val, by omega⟩) := by
  unfold ldW
  rw [View.readAt_eq_ld, harg5.read_unread]
  exact View.ld_unit_apply_of x3 _ _ _ _ _ (fun a => by fin_cases a <;> simp [ix2])

theorem ldW6_apply (x3 : Vec Ideal S80x1728 .bf16) (o : Fin 80) (q : Fin 192) :
    ldW6 arg5 harg5 x3 (ix2 o q) = x3 (ix2 o ⟨1536 + q.val, by omega⟩) := by
  unfold ldW6
  rw [View.readAt_eq_ld, harg5.read_unread]
  exact View.ld_unit_apply_of x3 _ _ _ _ _ (fun a => by fin_cases a <;> simp [ix2])

theorem ldP_apply (xs0 : Vec Ideal S8x512 .i32) (g : ℕ) (hg) (h : g ≤ 384) (s : Fin 8) (l : Fin 128) :
    ldP arg10 harg10 xs0 g hg (ix2 s l) = xs0 (ix2 s ⟨g + l.val, by omega⟩) := by
  unfold ldP
  rw [View.readAt_eq_ld, harg10.read_unread]
  exact View.ld_unit_apply_of xs0 _ _ _ _ _ (fun a => by fin_cases a <;> simp [ix2])

/-! ### Read-backs -/

theorem piecesS_eq (w : (k : ℕ) → k < 27 → Vec Ideal S1x8x128 .i32) :
    piecesS w = List.ofFn fun k : Fin 27 =>
      (⟨Rect.unit (s := S27x8x128) ![26 - k.val, 0, 0] S1x8x128.size (inbI (26 - k.val) (by omega)), w (26 - k.val) (by omega)⟩ :
        View.Piece (Elt Ideal) S27x8x128 .i32) := by
  sl_kernel_rfl

theorem rcS_apply (w : (k : ℕ) → k < 27 → Vec Ideal S1x8x128 .i32) (s : ℕ) (hs : s < 8) (k : Fin 27) (l : Fin 128) :
    rcS arg11 (piecesS w) s hs k (ix3 0 0 l) = w k.val k.isLt (ix3 0 ⟨s, hs⟩ l) := by
  unfold rcS
  rw [View.readCov_eq_canon']
  have hi : (Rect.unit (s := S27x8x128) ![k.val, s, 0] S1x1x128.size (inbT k.val s k.isLt hs)).toLoadRect.idx (ix3 0 0 l)
      = ix3 k ⟨s, hs⟩ l := funext fun a => Fin.ext (by
    refine (Rect.idx_unit_val _ _ _ _ a).trans ?_
    fin_cases a <;> simp [ix3])
  refine (congrArg (View.canon (piecesS w)) hi).trans ?_
  rw [piecesS_eq]
  refine View.canon_ofFn_unit_eq_of_forall _ _ _ _ _ _ ⟨⟨26 - k.val, by omega⟩, fun a => ?_⟩ (fun k' x hx => ?_)
  · fin_cases a <;> simp [ix3, S1x8x128] <;> omega
  · have h0 : 26 - k'.val = k.val := by
      have := hx 0
      have hx0 := (x 0).isLt
      simp [ix3, S1x8x128] at this hx0
      omega
    have hy : ∀ (p : ℕ) (hp : p < 27), p = k.val → w p hp (ix3 0 ⟨s, hs⟩ l) = w k.val k.isLt (ix3 0 ⟨s, hs⟩ l) :=
      fun p hp e => by subst e; rfl
    refine Eq.trans (congrArg (w (26 - k'.val) _) (funext fun a => Fin.ext ?_)) (hy (26 - k'.val) (by omega) h0)
    have := hx a
    fin_cases a
    · have hx0 := (x 0).isLt; simp [ix3, S1x8x128] at hx0 ⊢; try omega
    · simp [ix3] at this ⊢; omega
    · simp [ix3] at this ⊢; omega

theorem pieces6_eq (y : (s : ℕ) → s < 8 → FVec Ideal S80x128 .f32) :
    pieces6 y = List.ofFn fun k : Fin 8 =>
      (⟨Rect.unit (s := S8x80x128) ![7 - k.val, 0, 0] S1x80x128.size
        (fun a => by fin_cases a <;> simp [S1x80x128, S8x80x128]; omega), quant (y (7 - k.val) (by omega))⟩ :
          View.Piece (Elt Ideal) S8x80x128 .fp8e4m3) := by
  sl_kernel_rfl

theorem canon6 (y : (s : ℕ) → s < 8 → FVec Ideal S80x128 .f32) (s : Fin 8) (o : Fin 80) (l : Fin 128) :
    View.canon (pieces6 y) (ix3 s o l) = quant (y s.val s.isLt) (ix3 0 o l) := by
  rw [pieces6_eq]
  refine View.canon_ofFn_unit_eq_of_forall _ _ _ _ _ _ ⟨⟨7 - s.val, by omega⟩, fun a => ?_⟩ (fun k x hx => ?_)
  · fin_cases a <;> simp [ix3, S1x80x128]; omega
  · have h0 : 7 - k.val = s.val := by
      have := hx 0
      have hx0 := (x 0).isLt
      simp [ix3, S1x80x128] at this hx0
      omega
    have hy : ∀ (p : ℕ) (hp : p < 8), p = s.val → quant (y p hp) (ix3 0 o l) = quant (y s.val s.isLt) (ix3 0 o l) :=
      fun p hp e => by subst e; rfl
    refine Eq.trans (congrArg (quant (y (7 - k.val) _)) (funext fun a => Fin.ext ?_)) (hy (7 - k.val) (by omega) h0)
    have := hx a
    fin_cases a
    · have hx0 := (x 0).isLt; simp [ix3, S1x80x128] at hx0 ⊢; try omega
    · simp [ix3] at this ⊢; omega
    · simp [ix3] at this ⊢; omega

theorem pieces7_eq (y : (s : ℕ) → s < 8 → FVec Ideal S80x128 .f32) :
    pieces7 y = List.ofFn fun k : Fin 8 =>
      (⟨Rect.unit (s := S8x128) ![7 - k.val, 0] S1x128.size
        (fun a => by fin_cases a <;> simp [S1x128, S8x128]; omega), scaleOut (y (7 - k.val) (by omega))⟩ :
          View.Piece (Elt Ideal) S8x128 .f32) := by
  sl_kernel_rfl

theorem canon7 (y : (s : ℕ) → s < 8 → FVec Ideal S80x128 .f32) (s : Fin 8) (l : Fin 128) :
    View.canon (pieces7 y) (ix2 s l) = scaleOut (y s.val s.isLt) (ix2 0 l) := by
  rw [pieces7_eq]
  refine View.canon_ofFn_unit_eq_of_forall _ _ _ _ _ _ ⟨⟨7 - s.val, by omega⟩, fun a => ?_⟩ (fun k x hx => ?_)
  · fin_cases a <;> simp [ix2, S1x128]; omega
  · have h0 : 7 - k.val = s.val := by
      have := hx 0
      have hx0 := (x 0).isLt
      simp [ix2, S1x128] at this hx0
      omega
    have hy : ∀ (p : ℕ) (hp : p < 8), p = s.val → scaleOut (y p hp) (ix2 0 l) = scaleOut (y s.val s.isLt) (ix2 0 l) :=
      fun p hp e => by subst e; rfl
    refine Eq.trans (congrArg (scaleOut (y (7 - k.val) _)) (funext fun a => Fin.ext ?_)) (hy (7 - k.val) (by omega) h0)
    have := hx a
    fin_cases a
    · have hx0 := (x 0).isLt; simp [ix2, S1x128] at hx0 ⊢; try omega
    · simp [ix2] at this ⊢; omega

/-- The packed exponents of every group, as one array. -/
def packed (x0 : Vec Ideal S8x2048 .f32) : Vec Ideal S8x512 .i32 := fun i =>
  packAt x0 ((i 1).val / 128) (by have h := (i 1).isLt; simp [S8x512] at h; omega)
    ⟨(i 0).val, (i 0).isLt⟩ ⟨(i 1).val % 128, by omega⟩

theorem packed_apply (x0 : Vec Ideal S8x2048 .f32) (g : ℕ) (hg : g < 4) (s : Fin 8) (l : Fin 128) :
    packed x0 (ix2 s ⟨128 * g + l.val, by omega⟩) = packAt x0 g hg s l := by
  have hp : ∀ (p : ℕ) (hp : p < 4) (c : Fin 128), p = g → c = l → packAt x0 p hp s c = packAt x0 g hg s l :=
    fun p hp c e1 e2 => by subst e1 e2; rfl
  exact hp ((128 * g + l.val) / 128) _ ⟨(128 * g + l.val) % 128, by omega⟩ (by omega) (Fin.ext (by show (128 * g + l.val) % 128 = l.val; omega))

theorem canon10 (x0 : Vec Ideal S8x2048 .f32) (y : S8x512.Idx) : View.canon (pieces10 x0) y = packed x0 y := by
  refine View.canon_apply_of_pieces (packed x0) _ (fun p hp x => ?_) y
    (View.cover_of_tiledL (pieces10 x0) S8x128.size (by sl_kernel_rfl) y)
  have key : ∀ (g : ℕ) (hg : g < 4) (h) (pk : IVec S8x128 32) (hpk : ∀ s c, pk (ix2 s c) = packAt x0 g hg s c) (x : S8x128.Idx),
      pk x = packed x0 ((Rect.unit (s := S8x512) ![0, 128 * g] S8x128.size h).emb x) := by
    intro g hg h pk hpk x
    obtain ⟨s, c, rfl⟩ : ∃ s c, x = ix2 s c := ⟨x 0, x 1, funext fun a => by fin_cases a <;> rfl⟩
    rw [hpk, ← packed_apply x0 g hg s c]
    refine congrArg (packed x0) (funext fun a => Fin.ext ?_)
    refine Eq.trans ?_ (Rect.idx_unit_val _ _ _ _ a).symm
    fin_cases a <;> simp [ix2]
  unfold pieces10 at hp
  simp only [List.mem_cons, List.not_mem_nil, or_false] at hp
  rcases hp with rfl | rfl | rfl | rfl
  · exact key 3 (by omega) inb_S8x512_S8x128_0_384 _ (pack3_apply x0) x
  · exact key 2 (by omega) inb_S8x512_S8x128_0_256 _ (pack2_apply x0) x
  · exact key 1 (by omega) inb_S8x512_S8x128_0_128 _ (pack1_apply x0) x
  · exact key 0 (by omega) inb_S8x512_S8x128_0_0 _ (pack0_apply x0) x

theorem rcP_apply (x0 : Vec Ideal S8x2048 .f32) (g : ℕ) (hg : g < 4) (h) (s : Fin 8) (l : Fin 128) :
    rcP arg10 (pieces10 x0) (128 * g) h (ix2 s l) = packAt x0 g hg s l := by
  unfold rcP
  rw [View.readCov_eq_canon', ← packed_apply x0 g hg s l]
  refine (canon10 x0 _).trans ?_
  refine congrArg (packed x0) (funext fun a => Fin.ext ?_)
  refine (Rect.idx_unit_val _ _ _ _ a).trans ?_
  fin_cases a <;> simp [ix2]

/-- The scale words stored at a point read back as the neighbours' scales. -/
theorem scale_value (x0 : Vec Ideal S8x2048 .f32) (x1 : Vec Ideal S27x8x128 .i32) (hx : Good x0 x1)
    (p0 p1 p2 p3 : IVec S8x128 32)
    (h0 : ∀ s c, p0 (ix2 s c) = packAt x0 0 (by omega) s c) (h1 : ∀ s c, p1 (ix2 s c) = packAt x0 1 (by omega) s c)
    (h2 : ∀ s c, p2 (ix2 s c) = packAt x0 2 (by omega) s c) (h3 : ∀ s c, p3 (ix2 s c) = packAt x0 3 (by omega) s c)
    (s : ℕ) (hs : s < 8) (k : Fin 27) (l : Fin 128) (q : ℕ) :
    Ideal.ofBits .bf16 ((rcS (F := Ideal) arg11 (piecesS fun k hk => scaleWord (F := Ideal) (ldI arg3 harg3 x1 k hk) p0 p1 p2 p3) s hs k
      (ix3 0 0 l)).extractLsb' (16 * (q % 2)) 16) = nb x0 (x1 (ix3 k ⟨s, hs⟩ l)) ⟨s, hs⟩ := by
  rw [rcS_apply arg11 (fun k hk => scaleWord (F := Ideal) (ldI arg3 harg3 x1 k hk) p0 p1 p2 p3)]
  obtain ⟨a, b⟩ := scaleWord_apply (ldI (F := Ideal) arg3 harg3 x1 k.val k.isLt) p0 p1 p2 p3 x0 h0 h1 h2 h3 ⟨s, hs⟩ l
  rw [ldI_apply] at a b
  unfold nb Cert.Math.nbScale
  by_cases hn : (x1 (ix3 k ⟨s, hs⟩ l)).slt 0#32 = true
  · rw [a hn, if_pos hn]
    rw [show (0#32).extractLsb' (16 * (q % 2)) 16 = 0#16 from by apply BitVec.eq_of_toNat_eq; simp]
    simp [Ideal.ofBits, Ideal.ieee]
  · have hb : (x1 (ix3 k ⟨s, hs⟩ l)).toNat < 2048 := (hx.index k ⟨s, hs⟩ l).resolve_left hn
    rw [b hb, if_neg hn, dif_pos hb]
    exact scale_pattern _ (hx.scale _ _) q

section Points

variable (c : Dev nD) (i : grid0.Coords) (arg2 : Memref sig .tc .vmem S8x2048 .f32) (harg2 : arg2.IsWhole) (arg3 : Memref sig .tc .vmem S27x8x128 .i32) (harg3 : arg3.IsWhole) (arg4 : Memref sig .tc .vmem S8x1x54x8x128 .i32) (harg4 : arg4.IsWhole) (arg5 : Memref sig .tc .vmem S80x1728 .bf16) (harg5 : arg5.IsWhole) (arg6 : Memref sig .tc .vmem S80x128 .f32) (harg6 : arg6.IsWhole) (arg7 : Memref sig .tc .vmem S80x128 .f32) (harg7 : arg7.IsWhole) (arg8 : Memref sig .tc .vmem S8x80x128 .fp8e4m3) (harg8 : arg8.IsWhole) (arg9 : Memref sig .tc .vmem S8x128 .f32) (harg9 : arg9.IsWhole) (arg10 : Memref sig .tc .vmem S8x512 .i32) (harg10 : arg10.IsWhole) (arg11 : Memref sig .tc .vmem S27x8x128 .i32) (harg11 : arg11.IsWhole)
  (x0 : Vec Ideal S8x2048 .f32) (x1 : Vec Ideal S27x8x128 .i32) (x2 : Vec Ideal S8x1x54x8x128 .i32) (x3 : Vec Ideal S80x1728 .bf16) (x4 x5 : Vec Ideal S80x128 .f32)

/-- The entries before quantisation at a group's first point. -/
theorem ysA (hx : Good x0 x1) (s : ℕ) (hs : s < 8) (o : Fin 80) (l : Fin 128) :
    A.ys arg2 harg2 arg3 harg3 arg4 harg4 arg5 harg5 arg6 harg6 arg7 harg7 arg10 arg11 x0 x1 x2 x3 x4 x5 s hs (ix2 o l)
      = pre x0 x1 x2 x3 x4 x5 ⟨s, hs⟩ l o := by
  unfold A.ys
  rw [ldX_eq]
  exact yAll_apply _ _ _ _ _ _ x0 x1 x2 x3 x4 x5
    (scale_value arg3 harg3 arg11 x0 x1 hx _ _ _ _ (rcP_apply arg10 x0 0 (by omega) _) (rcP_apply arg10 x0 1 (by omega) _)
      (rcP_apply arg10 x0 2 (by omega) _) (rcP_apply arg10 x0 3 (by omega) _))
    (ldG_apply arg4 harg4 x2) (ldW_apply arg5 harg5 x3) (ldW6_apply arg5 harg5 x3) (ldB_eq arg6 harg6 x4)
    (ldB_eq arg7 harg7 x5) s hs o l

/-- The entries before quantisation at a group's later points, which find the group's packed exponents. -/
theorem ysB (hx : Good x0 x1) (s : ℕ) (hs : s < 8) (o : Fin 80) (l : Fin 128) :
    B.ys arg3 harg3 arg4 harg4 arg5 harg5 arg6 harg6 arg7 harg7 arg10 harg10 arg11 x1 x2 x3 x4 x5 (packed x0) s hs (ix2 o l)
      = pre x0 x1 x2 x3 x4 x5 ⟨s, hs⟩ l o := by
  unfold B.ys
  have hp : ∀ (g : ℕ) (hg : g < 4) (h) (s : Fin 8) (c : Fin 128),
      ldP arg10 harg10 (packed x0) (128 * g) h (ix2 s c) = packAt x0 g hg s c := fun g hg h s c =>
    (ldP_apply arg10 harg10 (packed x0) (128 * g) h (by omega) s c).trans (packed_apply x0 g hg s c)
  exact yAll_apply _ _ _ _ _ _ x0 x1 x2 x3 x4 x5
    (scale_value arg3 harg3 arg11 x0 x1 hx _ _ _ _ (hp 0 (by omega) _) (hp 1 (by omega) _) (hp 2 (by omega) _) (hp 3 (by omega) _))
    (ldG_apply arg4 harg4 x2) (ldW_apply arg5 harg5 x3) (ldW6_apply arg5 harg5 x3) (ldB_eq arg6 harg6 x4)
    (ldB_eq arg7 harg7 x5) s hs o l

/-- Output 6 at an entry, at a group's first point. -/
theorem outA6 (hc : cond0_0 i) (hx : Good x0 x1) (s : Fin 8) (o : Fin 80) (l : Fin 128) :
    out0_A_6 c i arg2 harg2 arg3 harg3 arg4 harg4 arg5 harg5 arg6 harg6 arg7 harg7 arg8 harg8 arg9 harg9 arg10 harg10 arg11 harg11 hc x0 x1 x2 x3 x4 x5 (ix3 s o l) = outQ (pre x0 x1 x2 x3 x4 x5 s l) o := by
  unfold out0_A_6
  rw [View.read_writes_junk_apply_eq_canon, A.stores6, canon6, quant_apply]
  simp only [ysA _ _ _ _ _ _ _ _ _ _ _ _ _ _ x0 x1 x2 x3 x4 x5 hx]
  rfl

/-- Output 7 at an entry, at a group's first point. -/
theorem outA7 (hc : cond0_0 i) (hx : Good x0 x1) (s : Fin 8) (l : Fin 128) :
    out0_A_7 c i arg2 harg2 arg3 harg3 arg4 harg4 arg5 harg5 arg6 harg6 arg7 harg7 arg8 harg8 arg9 harg9 arg10 harg10 arg11 harg11 hc x0 x1 x2 x3 x4 x5 (ix2 s l) = outS (pre x0 x1 x2 x3 x4 x5 s l) := by
  unfold out0_A_7
  rw [View.read_writes_junk_apply_eq_canon, A.stores7, canon7, scaleOut_apply]
  simp only [ysA _ _ _ _ _ _ _ _ _ _ _ _ _ _ x0 x1 x2 x3 x4 x5 hx]
  rfl

/-- Output 6 at an entry, at a group's later points. -/
theorem outB6 (hc : ¬cond0_0 i) (hx : Good x0 x1) (s : Fin 8) (o : Fin 80) (l : Fin 128) :
    out0_B_6 c i arg2 harg2 arg3 harg3 arg4 harg4 arg5 harg5 arg6 harg6 arg7 harg7 arg8 harg8 arg9 harg9 arg10 harg10 arg11 harg11 hc x0 x1 x2 x3 x4 x5 (packed x0) (ix3 s o l) = outQ (pre x0 x1 x2 x3 x4 x5 s l) o := by
  unfold out0_B_6
  rw [View.read_writes_junk_apply_eq_canon, B.stores6, canon6, quant_apply]
  simp only [ysB _ _ _ _ _ _ _ _ _ _ _ _ _ x0 x1 x2 x3 x4 x5 hx]
  rfl

/-- Output 7 at an entry, at a group's later points. -/
theorem outB7 (hc : ¬cond0_0 i) (hx : Good x0 x1) (s : Fin 8) (l : Fin 128) :
    out0_B_7 c i arg2 harg2 arg3 harg3 arg4 harg4 arg5 harg5 arg6 harg6 arg7 harg7 arg8 harg8 arg9 harg9 arg10 harg10 arg11 harg11 hc x0 x1 x2 x3 x4 x5 (packed x0) (ix2 s l) = outS (pre x0 x1 x2 x3 x4 x5 s l) := by
  unfold out0_B_7
  rw [View.read_writes_junk_apply_eq_canon, B.stores7, canon7, scaleOut_apply]
  simp only [ysB _ _ _ _ _ _ _ _ _ _ _ _ _ x0 x1 x2 x3 x4 x5 hx]
  rfl

/-- What a group's first point leaves in the scratch it passes on. -/
theorem soutA (hc : cond0_0 i) : sout0_A_0 c i arg2 harg2 arg3 harg3 arg4 harg4 arg5 harg5 arg6 harg6 arg7 harg7 arg8 harg8 arg9 harg9 arg10 harg10 arg11 harg11 hc x0 x1 x2 x3 x4 x5 = packed x0 := by
  funext y
  unfold sout0_A_0
  rw [View.read_writes_junk_apply_eq_canon, A.stores10, ldX_eq]
  exact canon10 x0 y

end Points

end Cert.KernelIdeal.Point
-- ==== Proof.Arrays.lean ====
/- The kernel's two results after the whole grid, at an entry: the blocks each point reads in terms of the argument
   arrays, the scratch every point finds, and the formula of Spec.lean. -/
module

public import proofs.«01_k».proof.Proof.Point
public import proofs.«01_k».proof.Proof.Gen.KernelIdeal.Value

@[expose] public section

noncomputable section

namespace Cert.KernelIdeal.Arrays

open Idealize.ShloMosaic Idealize.ShloMosaic.TcCoe Idealize.SL.Sem Cert.KernelIdeal.Gen Cert.KernelIdeal.Model Cert.KernelIdeal.Point
open Cert.Math (outQ outS)

variable (m : (ℓ : Loc nD τ sig) → Buf (Elt Ideal) ℓ) (c : Dev nD)

/-- The argument arrays, by coordinates. -/
def args : Cert.Math.Args where
  scale b n := (m ((c : Thread nD τ).loc main_arg0) : Vec Ideal S24x2048 .f32) (ix2 b n)
  nbr b t k := (m ((c : Thread nD τ).loc main_arg1) : Vec Ideal S24x2048x27 .i32) (ix3 b t k)
  words b j i r l := (m ((c : Thread nD τ).loc main_arg2) : Vec Ideal S24x16x54x8x128 .i32) (ix5 b j i r l)
  weight k h o := (m ((c : Thread nD τ).loc main_arg3) : Vec Ideal S27x64x80 .bf16) (ix3 k h o)
  wscale o := (m ((c : Thread nD τ).loc main_arg4) : Vec Ideal S80 .f32) (ix1 o)
  bias o := (m ((c : Thread nD τ).loc main_arg5) : Vec Ideal S80 .f32) (ix1 o)

/-! ### The host operations before the kernel -/

theorem V_v0 : V m c main_v0 = transpose S27x24x2048 [2, 0, 1] (m ((c : Thread nD τ).loc main_arg1)) transposes_S24x2048x27_S27x24x2048_2_0_1 := by
  show StableHlo.after hostOps0 _ (Proc.devRef .tc main_v0) = _
  after_results

theorem V_v2 : V m c main_v2 = transpose S80x1728 [1, 0] (shapeCast S1728x80 (m ((c : Thread nD τ).loc main_arg3)) shapeCasts_S27x64x80_S1728x80)
    transposes_S1728x80_S80x1728_1_0 := by
  show StableHlo.after hostOps0 _ (Proc.devRef .tc main_v2) = _
  after_results
  rfl

theorem V_v4 : V m c main_v4 = broadcastInDim S80x128 ![0, 1] bcast_S80x1_S80x128_0_1
    (broadcastInDim S80x1 ![0] bcast_S80_S80x1_0 (m ((c : Thread nD τ).loc main_arg4))) := by
  show StableHlo.after hostOps0 _ (Proc.devRef .tc main_v4) = _
  after_results

theorem V_v6 : V m c main_v6 = broadcastInDim S80x128 ![0, 1] bcast_S80x1_S80x128_0_1
    (broadcastInDim S80x1 ![0] bcast_S80_S80x1_0 (m ((c : Thread nD τ).loc main_arg5))) := by
  show StableHlo.after hostOps0 _ (Proc.devRef .tc main_v6) = _
  after_results

/-! ### The blocks -/

theorem lt_group (t : Fin cfg0.N) (s : Fin 8) : 8 * (t.val / 16) + s.val < 24 := by
  have := lt_of_lt_of_eq t.isLt (show cfg0.N = 48 from N_0); omega

theorem lt_lane (t : Fin cfg0.N) (l : Fin 128) : 128 * (t.val % 16) + l.val < 2048 := by omega

/-- The sequence and the output a point's block entry belongs to. -/
def seqOf (t : Fin cfg0.N) (s : Fin 8) : Fin 24 := ⟨8 * (t.val / 16) + s.val, lt_group t s⟩
def outOf (t : Fin cfg0.N) (l : Fin 128) : Fin 2048 := ⟨128 * (t.val % 16) + l.val, lt_lane t l⟩

theorem index0 : ∀ t : Fin cfg0.N, win0_0.index t (0 : Fin 2) = t.val / 16 ∧ win0_0.index t (1 : Fin 2) = 0 :=
  (by decide +kernel : ∀ t : Fin grid0.N, _)
theorem index1 : ∀ t : Fin cfg0.N, win0_1.index t (0 : Fin 3) = 0 ∧ win0_1.index t (1 : Fin 3) = t.val / 16 ∧ win0_1.index t (2 : Fin 3) = t.val % 16 :=
  (by decide +kernel : ∀ t : Fin grid0.N, _)
theorem index2 : ∀ t : Fin cfg0.N, win0_2.index t (0 : Fin 5) = t.val / 16 ∧ win0_2.index t (1 : Fin 5) = t.val % 16
    ∧ win0_2.index t (2 : Fin 5) = 0 ∧ win0_2.index t (3 : Fin 5) = 0 ∧ win0_2.index t (4 : Fin 5) = 0 :=
  (by decide +kernel : ∀ t : Fin grid0.N, _)
theorem index3 : ∀ t : Fin cfg0.N, win0_3.index t (0 : Fin 2) = 0 ∧ win0_3.index t (1 : Fin 2) = 0 :=
  (by decide +kernel : ∀ t : Fin grid0.N, _)
theorem index4 : ∀ t : Fin cfg0.N, win0_4.index t (0 : Fin 2) = 0 ∧ win0_4.index t (1 : Fin 2) = 0 :=
  (by decide +kernel : ∀ t : Fin grid0.N, _)
theorem index5 : ∀ t : Fin cfg0.N, win0_5.index t (0 : Fin 2) = 0 ∧ win0_5.index t (1 : Fin 2) = 0 :=
  (by decide +kernel : ∀ t : Fin grid0.N, _)

theorem iblk0 (t : Fin cfg0.N) (s : Fin 8) (n : Fin 2048) :
    (iblk m c 0 t : Vec Ideal S8x2048 .f32) (ix2 s n) = (args m c).scale (seqOf t s) n := by
  obtain ⟨e0, e1⟩ := index0 t
  show V m c main_arg0 (((cfg0.win 0).blk t).view.emb (ix2 s n : S8x2048.Idx)) = _
  rw [V_main_arg0]
  refine congrArg (m ((c : Thread nD τ).loc main_arg0)) (funext fun a => Fin.ext ?_)
  match a with
  | ⟨0, _⟩ => show win0_0.index t (0 : Fin 2) * 8 + 1 * s.val = 8 * (t.val / 16) + s.val; omega
  | ⟨1, _⟩ => show win0_0.index t (1 : Fin 2) * 2048 + 1 * n.val = n.val; omega

theorem iblk1 (t : Fin cfg0.N) (k : Fin 27) (s : Fin 8) (l : Fin 128) :
    (iblk m c 1 t : Vec Ideal S27x8x128 .i32) (ix3 k s l) = (args m c).nbr (seqOf t s) (outOf t l) k := by
  obtain ⟨e0, e1, e2⟩ := index1 t
  show V m c main_v0 (((cfg0.win 1).blk t).view.emb (ix3 k s l : S27x8x128.Idx)) = _
  rw [V_v0]
  refine (congrArg (transpose S27x24x2048 [2, 0, 1] (m ((c : Thread nD τ).loc main_arg1)) transposes_S24x2048x27_S27x24x2048_2_0_1)
    (show _ = ix3 k (seqOf t s) (outOf t l) from funext fun a => Fin.ext ?_)).trans ?_
  · match a with
    | ⟨0, _⟩ => show win0_1.index t (0 : Fin 3) * 27 + 1 * k.val = k.val; omega
    | ⟨1, _⟩ => show win0_1.index t (1 : Fin 3) * 8 + 1 * s.val = 8 * (t.val / 16) + s.val; omega
    | ⟨2, _⟩ => show win0_1.index t (2 : Fin 3) * 128 + 1 * l.val = 128 * (t.val % 16) + l.val; omega
  · exact transpose_apply _ _ _ _ _ (fun b => match b with | ⟨0, _⟩ => rfl | ⟨1, _⟩ => rfl | ⟨2, _⟩ => rfl)

theorem iblk2 (t : Fin cfg0.N) (s : Fin 8) (j : Fin 54) (r : Fin 8) (l : Fin 128) :
    (iblk m c 2 t : Vec Ideal S8x1x54x8x128 .i32) (ix5 s 0 j r l) = (args m c).words (seqOf t s) ⟨t.val % 16, by omega⟩ j r l := by
  obtain ⟨e0, e1, e2, e3, e4⟩ := index2 t
  show V m c main_arg2 (((cfg0.win 2).blk t).view.emb (ix5 s 0 j r l : S8x1x54x8x128.Idx)) = _
  rw [V_main_arg2]
  refine congrArg (m ((c : Thread nD τ).loc main_arg2)) (funext fun a => Fin.ext ?_)
  match a with
  | ⟨0, _⟩ => show win0_2.index t (0 : Fin 5) * 8 + 1 * s.val = 8 * (t.val / 16) + s.val; omega
  | ⟨1, _⟩ => show win0_2.index t (1 : Fin 5) * 1 + 1 * 0 = t.val % 16; omega
  | ⟨2, _⟩ => show win0_2.index t (2 : Fin 5) * 54 + 1 * j.val = j.val; omega
  | ⟨3, _⟩ => show win0_2.index t (3 : Fin 5) * 8 + 1 * r.val = r.val; omega
  | ⟨4, _⟩ => show win0_2.index t (4 : Fin 5) * 128 + 1 * l.val = l.val; omega

theorem iblk3 (t : Fin cfg0.N) (o : Fin 80) (ch : Fin 1728) :
    (iblk m c 3 t : Vec Ideal S80x1728 .bf16) (ix2 o ch) = (args m c).wt o ch := by
  obtain ⟨e0, e1⟩ := index3 t
  show V m c main_v2 (((cfg0.win 3).blk t).view.emb (ix2 o ch : S80x1728.Idx)) = _
  rw [V_v2]
  refine (congrArg (transpose S80x1728 [1, 0] (shapeCast S1728x80 (m ((c : Thread nD τ).loc main_arg3)) shapeCasts_S27x64x80_S1728x80)
    transposes_S1728x80_S80x1728_1_0) (show _ = ix2 o ch from funext fun a => Fin.ext ?_)).trans ?_
  · match a with
    | ⟨0, _⟩ => show win0_3.index t (0 : Fin 2) * 80 + 1 * o.val = o.val; omega
    | ⟨1, _⟩ => show win0_3.index t (1 : Fin 2) * 1728 + 1 * ch.val = ch.val; omega
  · refine (transpose_apply _ _ _ _ (ix2 ch o) (fun b => match b with | ⟨0, _⟩ => rfl | ⟨1, _⟩ => rfl)).trans ?_
    refine (shapeCast_apply _ _ _ (ix3 ⟨ch.val / 64, by omega⟩ ⟨ch.val % 64, by omega⟩ o) ?_).trans rfl
    rw [Shape.rowMajor_val_three, Shape.rowMajor_val_two]
    simp [ix3, ix2]
    omega

theorem bcast_apply (x : Vec Ideal S80 .f32) (o : Fin 80) (l : Fin 128) :
    broadcastInDim S80x128 ![0, 1] bcast_S80x1_S80x128_0_1 (broadcastInDim S80x1 ![0] bcast_S80_S80x1_0 x) (ix2 o l) = x (ix1 o) := by
  refine (broadcastInDim_apply _ _ _ _ (ix2 o 0) (fun a => match a with | ⟨0, _⟩ => rfl | ⟨1, _⟩ => rfl)).trans ?_
  exact broadcastInDim_apply _ _ _ _ (ix1 o) (fun a => match a with | ⟨0, _⟩ => rfl)

theorem iblk4 (t : Fin cfg0.N) (o : Fin 80) (l : Fin 128) :
    (iblk m c 4 t : Vec Ideal S80x128 .f32) (ix2 o l) = (args m c).wscale o := by
  obtain ⟨e0, e1⟩ := index4 t
  show V m c main_v4 (((cfg0.win 4).blk t).view.emb (ix2 o l : S80x128.Idx)) = _
  rw [V_v4]
  refine (congrArg (broadcastInDim S80x128 ![0, 1] bcast_S80x1_S80x128_0_1 (broadcastInDim S80x1 ![0] bcast_S80_S80x1_0
    (m ((c : Thread nD τ).loc main_arg4)))) (show _ = ix2 o l from funext fun a => Fin.ext ?_)).trans (bcast_apply _ o l)
  match a with
  | ⟨0, _⟩ => show win0_4.index t (0 : Fin 2) * 80 + 1 * o.val = o.val; omega
  | ⟨1, _⟩ => show win0_4.index t (1 : Fin 2) * 128 + 1 * l.val = l.val; omega

theorem iblk5 (t : Fin cfg0.N) (o : Fin 80) (l : Fin 128) :
    (iblk m c 5 t : Vec Ideal S80x128 .f32) (ix2 o l) = (args m c).bias o := by
  obtain ⟨e0, e1⟩ := index5 t
  show V m c main_v6 (((cfg0.win 5).blk t).view.emb (ix2 o l : S80x128.Idx)) = _
  rw [V_v6]
  refine (congrArg (broadcastInDim S80x128 ![0, 1] bcast_S80x1_S80x128_0_1 (broadcastInDim S80x1 ![0] bcast_S80_S80x1_0
    (m ((c : Thread nD τ).loc main_arg5)))) (show _ = ix2 o l from funext fun a => Fin.ext ?_)).trans (bcast_apply _ o l)
  match a with
  | ⟨0, _⟩ => show win0_5.index t (0 : Fin 2) * 80 + 1 * o.val = o.val; omega
  | ⟨1, _⟩ => show win0_5.index t (1 : Fin 2) * 128 + 1 * l.val = l.val; omega

/-! ### Every point -/

/-- What the arguments must satisfy: scales are scales, indices are negative or below 2048. -/
structure Fits (A : Cert.Math.Args) : Prop where
  scale : ∀ b n, IsScale (A.scale b n)
  index : ∀ b t k, (A.nbr b t k).slt 0#32 = true ∨ (A.nbr b t k).toNat < 2048

variable (hA : Fits (args m c))
include hA

theorem good (t : Fin cfg0.N) : Good (iblk m c 0 t) (iblk m c 1 t) :=
  ⟨fun s n => by rw [iblk0]; exact hA.scale _ _, fun k s l => by rw [iblk1]; exact hA.index _ _ _⟩

omit hA in
theorem pre_eq (t : Fin cfg0.N) (s : Fin 8) (l : Fin 128) :
    pre (iblk m c 0 t) (iblk m c 1 t) (iblk m c 2 t) (iblk m c 3 t) (iblk m c 4 t) (iblk m c 5 t) s l
      = (args m c).y (seqOf t s) (outOf t l) := by
  funext o
  have e1 : ∀ (h : (outOf t l).val / 128 < 16), (⟨(outOf t l).val / 128, h⟩ : Fin 16) = ⟨t.val % 16, by omega⟩ :=
    fun h => Fin.ext (by show (128 * (t.val % 16) + l.val) / 128 = t.val % 16; omega)
  have e2 : ∀ (h : (outOf t l).val % 128 < 128), (⟨(outOf t l).val % 128, h⟩ : Fin 128) = l :=
    fun h => Fin.ext (by show (128 * (t.val % 16) + l.val) % 128 = l.val; omega)
  unfold pre Cert.Math.Args.y Point.chan Cert.Math.Args.chan Cert.Math.Args.code nb
  simp only [iblk0, iblk1, iblk2, iblk3, iblk4, iblk5, e1, e2]

/-- The exponents' blocks of two points of one group are the same. -/
theorem iblk0_group (t t' : Fin cfg0.N) (h : t.val / 16 = t'.val / 16) :
    (iblk m c 0 t : Vec Ideal S8x2048 .f32) = iblk m c 0 t' := by
  funext i
  obtain ⟨s, n, rfl⟩ : ∃ s n, i = ix2 s n := ⟨i 0, i 1, funext fun a => match a with | ⟨0, _⟩ => rfl | ⟨1, _⟩ => rfl⟩
  rw [iblk0, iblk0]
  exact congrArg (fun b => (args m c).scale b n) (Fin.ext (by show 8 * (t.val / 16) + s.val = 8 * (t'.val / 16) + s.val; rw [h]))

/-- Every point leaves its group's packed exponents in the scratch. -/
theorem scratch : ∀ (n : ℕ) (hn : n < cfg0.N), (outsAt0 m c n hn).2.2 = packed (iblk m c 0 ⟨n, hn⟩) := by
  intro n
  induction n with
  | zero =>
    intro hn
    rw [outsAt0_A m c ⟨0, hn⟩ (Nat.zero_mod _)]
    exact soutA c (grid0.coords ⟨0, hn⟩) (ms0_0 ⟨0, hn⟩) (hs0_0 ⟨0, hn⟩) (ms0_1 ⟨0, hn⟩) (hs0_1 ⟨0, hn⟩) (ms0_2 ⟨0, hn⟩) (hs0_2 ⟨0, hn⟩) (ms0_3 ⟨0, hn⟩) (hs0_3 ⟨0, hn⟩) (ms0_4 ⟨0, hn⟩) (hs0_4 ⟨0, hn⟩) (ms0_5 ⟨0, hn⟩) (hs0_5 ⟨0, hn⟩) (ms0_6 ⟨0, hn⟩) (hs0_6 ⟨0, hn⟩) (ms0_7 ⟨0, hn⟩) (hs0_7 ⟨0, hn⟩)
        scM0_0 (Memref.isWhole_whole _) scM0_1 (Memref.isWhole_whole _)
        (iblk m c 0 ⟨0, hn⟩) (iblk m c 1 ⟨0, hn⟩) (iblk m c 2 ⟨0, hn⟩) (iblk m c 3 ⟨0, hn⟩) (iblk m c 4 ⟨0, hn⟩) (iblk m c 5 ⟨0, hn⟩) ((hcond0_0 _).mpr (Nat.zero_mod _))
  | succ n ih =>
    intro hn
    by_cases h0 : (n + 1) % 16 = 0
    · rw [outsAt0_A m c ⟨n + 1, hn⟩ h0]
      exact soutA c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) (ms0_5 ⟨n + 1, hn⟩) (hs0_5 ⟨n + 1, hn⟩) (ms0_6 ⟨n + 1, hn⟩) (hs0_6 ⟨n + 1, hn⟩) (ms0_7 ⟨n + 1, hn⟩) (hs0_7 ⟨n + 1, hn⟩)
        scM0_0 (Memref.isWhole_whole _) scM0_1 (Memref.isWhole_whole _)
        (iblk m c 0 ⟨n + 1, hn⟩) (iblk m c 1 ⟨n + 1, hn⟩) (iblk m c 2 ⟨n + 1, hn⟩) (iblk m c 3 ⟨n + 1, hn⟩) (iblk m c 4 ⟨n + 1, hn⟩) (iblk m c 5 ⟨n + 1, hn⟩) ((hcond0_0 _).mpr h0)
    · rw [outsAt0_B m c ⟨n + 1, hn⟩ h0]
      refine (ih (Nat.lt_of_succ_lt hn)).trans (congrArg packed (iblk0_group m c hA _ _ ?_))
      show n / 16 = (n + 1) / 16
      omega

/-- The first result's block after a point. -/
theorem block6 (t : Fin cfg0.N) (s : Fin 8) (o : Fin 80) (l : Fin 128) :
    (outsAt0 m c t.val t.isLt).1 (ix3 s o l) = outQ ((args m c).y (seqOf t s) (outOf t l)) o := by
  rw [← pre_eq]
  by_cases h0 : t.val % 16 = 0
  · rw [outsAt0_A m c t h0]
    dsimp only
    exact outA6 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t)
        scM0_0 (Memref.isWhole_whole _) scM0_1 (Memref.isWhole_whole _)
        (iblk m c 0 t) (iblk m c 1 t) (iblk m c 2 t) (iblk m c 3 t) (iblk m c 4 t) (iblk m c 5 t) ((hcond0_0 t).mpr h0) (good m c hA t) s o l
  · rw [outsAt0_B m c t h0]
    dsimp only
    rw [scratch m c hA, iblk0_group m c hA ⟨t.val - 1, _⟩ t (by show (t.val - 1) / 16 = t.val / 16; omega)]
    exact outB6 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t)
        scM0_0 (Memref.isWhole_whole _) scM0_1 (Memref.isWhole_whole _)
        (iblk m c 0 t) (iblk m c 1 t) (iblk m c 2 t) (iblk m c 3 t) (iblk m c 4 t) (iblk m c 5 t) (fun h => h0 ((hcond0_0 t).mp h)) (good m c hA t) s o l

/-- The second result's block after a point. -/
theorem block7 (t : Fin cfg0.N) (s : Fin 8) (l : Fin 128) :
    (outsAt0 m c t.val t.isLt).2.1 (ix2 s l) = outS ((args m c).y (seqOf t s) (outOf t l)) := by
  rw [← pre_eq]
  by_cases h0 : t.val % 16 = 0
  · rw [outsAt0_A m c t h0]
    dsimp only
    exact outA7 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t)
        scM0_0 (Memref.isWhole_whole _) scM0_1 (Memref.isWhole_whole _)
        (iblk m c 0 t) (iblk m c 1 t) (iblk m c 2 t) (iblk m c 3 t) (iblk m c 4 t) (iblk m c 5 t) ((hcond0_0 t).mpr h0) (good m c hA t) s l
  · rw [outsAt0_B m c t h0]
    dsimp only
    rw [scratch m c hA, iblk0_group m c hA ⟨t.val - 1, _⟩ t (by show (t.val - 1) / 16 = t.val / 16; omega)]
    exact outB7 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t)
        scM0_0 (Memref.isWhole_whole _) scM0_1 (Memref.isWhole_whole _)
        (iblk m c 0 t) (iblk m c 1 t) (iblk m c 2 t) (iblk m c 3 t) (iblk m c 4 t) (iblk m c 5 t) (fun h => h0 ((hcond0_0 t).mp h)) (good m c hA t) s l

/-- The first result at an entry. -/
theorem result0 (b : Fin 24) (o : Fin 80) (t : Fin 2048) :
    ((dats m 0 c).arrAt 6 cfg0.N : Vec Ideal S24x80x2048 .fp8e4m3) (ix3 b o t) = outQ ((args m c).y b t) o := by
  have hp : Value.pt6Of (ix3 b o t) = 16 * (b.val / 8) + t.val / 128 := by
    show 16 * (b.val / 8 - 0) + 16 * (o.val / 80 - 0) + 1 * (t.val / 128 - 0) = _; omega
  have hN : cfg0.N = 48 := N_0
  have hlt : 16 * (b.val / 8) + t.val / 128 < cfg0.N := by omega
  rw [Value.final6]
  unfold Value.G6
  rw [dif_pos (by rw [hp]; exact hlt), ← Value.outsAt0_sweep m c _ (by rw [hp]; exact hlt)]
  have hc : ∀ (p : ℕ) (hq : p < cfg0.N), p = 16 * (b.val / 8) + t.val / 128 →
      outsAt0 m c p hq = outsAt0 m c (16 * (b.val / 8) + t.val / 128) hlt := fun p hq e => by subst e; rfl
  rw [hc _ _ hp]
  refine (congrArg (outsAt0 m c _ hlt).1 (show _ = ix3 ⟨b.val % 8, by omega⟩ o ⟨t.val % 128, by omega⟩ from
    funext fun a => Fin.ext ?_)).trans ((block6 m c hA ⟨_, hlt⟩ _ _ _).trans ?_)
  · match a with
    | ⟨0, _⟩ => rfl
    | ⟨1, _⟩ => show o.val % 80 = o.val; omega
    | ⟨2, _⟩ => rfl
  · have e1 : seqOf ⟨16 * (b.val / 8) + t.val / 128, hlt⟩ ⟨b.val % 8, by omega⟩ = b :=
      Fin.ext (by show 8 * ((16 * (b.val / 8) + t.val / 128) / 16) + b.val % 8 = b.val; omega)
    have e2 : outOf ⟨16 * (b.val / 8) + t.val / 128, hlt⟩ ⟨t.val % 128, by omega⟩ = t :=
      Fin.ext (by show 128 * ((16 * (b.val / 8) + t.val / 128) % 16) + t.val % 128 = t.val; omega)
    rw [e1, e2]

/-- The second result at an entry. -/
theorem result1 (b : Fin 24) (t : Fin 2048) :
    ((dats m 0 c).arrAt 7 cfg0.N : Vec Ideal S24x2048 .f32) (ix2 b t) = outS ((args m c).y b t) := by
  have hp : Value.pt7Of (ix2 b t) = 16 * (b.val / 8) + t.val / 128 := by
    show 16 * (b.val / 8 - 0) + 1 * (t.val / 128 - 0) = _; omega
  have hN : cfg0.N = 48 := N_0
  have hlt : 16 * (b.val / 8) + t.val / 128 < cfg0.N := by omega
  rw [Value.final7]
  unfold Value.G7
  rw [dif_pos (by rw [hp]; exact hlt), ← Value.outsAt0_sweep m c _ (by rw [hp]; exact hlt)]
  have hc : ∀ (p : ℕ) (hq : p < cfg0.N), p = 16 * (b.val / 8) + t.val / 128 →
      outsAt0 m c p hq = outsAt0 m c (16 * (b.val / 8) + t.val / 128) hlt := fun p hq e => by subst e; rfl
  rw [hc _ _ hp]
  refine (congrArg (outsAt0 m c _ hlt).2.1 (show _ = ix2 ⟨b.val % 8, by omega⟩ ⟨t.val % 128, by omega⟩ from
    funext fun a => Fin.ext ?_)).trans ((block7 m c hA ⟨_, hlt⟩ _ _).trans ?_)
  · match a with
    | ⟨0, _⟩ => rfl
    | ⟨1, _⟩ => rfl
  · have e1 : seqOf ⟨16 * (b.val / 8) + t.val / 128, hlt⟩ ⟨b.val % 8, by omega⟩ = b :=
      Fin.ext (by show 8 * ((16 * (b.val / 8) + t.val / 128) / 16) + b.val % 8 = b.val; omega)
    have e2 : outOf ⟨16 * (b.val / 8) + t.val / 128, hlt⟩ ⟨t.val % 128, by omega⟩ = t :=
      Fin.ext (by show 128 * ((16 * (b.val / 8) + t.val / 128) % 16) + t.val % 128 = t.val; omega)
    rw [e1, e2]

end Cert.KernelIdeal.Arrays
-- ==== Proof.RefHost.lean ====
/- The reference's operands at an entry: the codes' bytes, the gathered scales, the presence mask, the weights and the
   per-channel factors, each in terms of the argument arrays. -/
module

public import proofs.«01_k».proof.Proof.Spec
public import proofs.«01_k».proof.Proof.Gen.ReferenceIdeal.Frame
public import Idealize.ShloMosaic.Lib.Pointwise
public import Idealize.ShloMosaic.Lib.StableHlo.Predicate

@[expose] public section

noncomputable section

namespace Cert.ReferenceIdeal.Host

open Idealize.ShloMosaic Idealize.ShloMosaic.TcCoe Idealize.SL.Sem Cert.ReferenceIdeal.Gen

/-- The bytes of the code words, one channel per row. -/
def codes (g : IVec S24x16x54x8x128 32) : IVec S24x1728x2048 8 :=
  shapeCast S24x1728x2048
    (transpose S24x27x16x4x16x128 [0, 2, 3, 4, 1, 5]
      (trunci 8
        (Host.shrsi
          (broadcastInDim S24x16x27x16x4x128 ![0, 1, 2, 3, 4, 5] bcast_S24x16x27x16x1x128_S24x16x27x16x4x128_0_1_2_3_4_5
            (broadcastInDim S24x16x27x16x1x128 ![0, 1, 2, 3, 5] bcast_S24x16x27x16x128_S24x16x27x16x1x128_0_1_2_3_5
              (shapeCast S24x16x27x16x128 g shapeCasts_S24x16x54x8x128_S24x16x27x16x128)))
          (broadcastInDim S24x16x27x16x4x128 ![0, 1, 2, 3, 4, 5] bcast_S1x1x1x1x4x1_S24x16x27x16x4x128_0_1_2_3_4_5
            (broadcastInDim S1x1x1x1x4x1 ![4, 5] bcast_S4x1_S1x1x1x1x4x1_4_5
              (broadcastInDim S4x1 ![0] bcast_S4_S4x1_0
                (muli (broadcastInDim S4 ![] bcast_S_S4 (constantI S_ 32 8#32)) (iotaInDim S4 32 0))))))
        natLt_8_32)
      transposes_S24x16x27x16x4x128_S24x27x16x4x16x128_0_2_3_4_1_5)
    shapeCasts_S24x27x16x4x16x128_S24x1728x2048

/-- The position of each neighbour's scale among all scales. -/
def flat (n : IVec S24x2048x27 32) : IVec S1327104 32 :=
  shapeCast S1327104
    (addi (maxsi n (broadcastInDim S24x2048x27 ![] bcast_S_S24x2048x27 (constantI S_ 32 0#32)))
      (broadcastInDim S24x2048x27 ![0, 1, 2] bcast_S24x1x1_S24x2048x27_0_1_2
        (broadcastInDim S24x1x1 ![0] bcast_S24_S24x1x1_0
          (muli (iotaInDim S24 32 0) (broadcastInDim S24 ![] bcast_S_S24 (constantI S_ 32 2048#32))))))
    shapeCasts_S24x2048x27_S1327104

/-- The gathered scales. -/
def taken (x : FVec Ideal S24x2048 .f32) (n : IVec S24x2048x27 32) : FVec Ideal S1327104 .bf16 :=
  Host.gather gather_S49152_S1327104x1_S1327104_n_0_n_n_0_1_1
    (shapeCast S49152 (truncf .bf16 x bitsLt_bf16_f32) shapeCasts_S24x2048_S49152)
    (broadcastInDim S1327104x1 ![0] bcast_S1327104_S1327104x1_0 (flat n))

/-- A value per neighbour, repeated over that neighbour's channels. -/
def spread {e : Type} (v : S24x2048x27.Idx → e) : S24x1728x2048.Idx → e :=
  shapeCast S24x1728x2048
    (broadcastInDim S24x27x64x2048 ![0, 1, 3] bcast_S24x27x2048_S24x27x64x2048_0_1_3
      (transpose S24x27x2048 [0, 2, 1] v transposes_S24x2048x27_S24x27x2048_0_2_1))
    shapeCasts_S24x27x64x2048_S24x1728x2048

/-- Whether there is a neighbour, as 0 or 1. -/
def present (n : IVec S24x2048x27 32) : IVec S24x2048x27 32 :=
  extui 32 (cmpi .sge n (broadcastInDim S24x2048x27 ![] bcast_S_S24x2048x27 (constantI S_ 32 0#32))) natLt_1_32

theorem byte_of (w : BitVec 32) (j : ℕ) (hj : j < 4) :
    BitVec.setWidth 8 (IntOp.shrsi .host w (IntOp.muli 8#32 (BitVec.ofNat 32 j))) = w.extractLsb' (8 * j) 8 := by
  have h : ∀ i : ℕ, i < 4 → (IntOp.muli 8#32 (BitVec.ofNat 32 i)).toNat = 8 * i := fun i hi => by interval_cases i <;> rfl
  unfold IntOp.shrsi
  rw [if_pos (by rw [h j hj]; omega), BitVec.sshiftRight', h j hj]
  apply BitVec.eq_of_getLsbD_eq
  intro i hi
  rw [BitVec.getLsbD_setWidth, BitVec.getLsbD_sshiftRight, BitVec.getLsbD_extractLsb']
  simp [show ¬ 32 ≤ i by omega, show 8 * j + i < 32 by omega, hi]

theorem code_tile (c : Fin 1728) : c.val / 32 < 54 := by omega

theorem code_row (c : Fin 1728) : c.val % 32 / 4 < 8 := by omega

theorem tile_pos (t : Fin 2048) : t.val / 128 < 16 := by omega

theorem lane_pos (t : Fin 2048) : t.val % 128 < 128 := by omega

theorem code_tile' (c : Fin 1728) : c.val / 64 * 2 + c.val / 4 % 16 / 8 < 54 := by omega

theorem code_row' (c : Fin 1728) : c.val / 4 % 16 % 8 < 8 := by omega

theorem code_tile_eq (c : Fin 1728) : (⟨c.val / 64 * 2 + c.val / 4 % 16 / 8, code_tile' c⟩ : Fin 54) = ⟨c.val / 32, code_tile c⟩ :=
  Fin.ext (by show c.val / 64 * 2 + c.val / 4 % 16 / 8 = c.val / 32; omega)

theorem code_row_eq (c : Fin 1728) : (⟨c.val / 4 % 16 % 8, code_row' c⟩ : Fin 8) = ⟨c.val % 32 / 4, code_row c⟩ :=
  Fin.ext (by show c.val / 4 % 16 % 8 = c.val % 32 / 4; omega)

theorem code_byte_eq (c : Fin 1728) : c.val % 4 = c.val % 32 % 4 := by omega

theorem codes_raw (g : IVec S24x16x54x8x128 32) (b : Fin 24) (c : Fin 1728) (t : Fin 2048) :
    codes g (ix3 b c t) = BitVec.setWidth 8 (IntOp.shrsi .host
      (g (ix5 b ⟨t.val / 128, tile_pos t⟩ ⟨c.val / 64 * 2 + c.val / 4 % 16 / 8, code_tile' c⟩ ⟨c.val / 4 % 16 % 8, code_row' c⟩ ⟨t.val % 128, lane_pos t⟩))
      (IntOp.muli 8#32 (BitVec.ofNat 32 (c.val % 4)))) := by
  unfold codes
  pointwise

/-- Channel `c`'s code is the byte of the word the gathered words hold it in. -/
theorem codes_apply (g : IVec S24x16x54x8x128 32) (b : Fin 24) (c : Fin 1728) (t : Fin 2048) :
    codes g (ix3 b c t) = (g (ix5 b ⟨t.val / 128, tile_pos t⟩ ⟨c.val / 32, code_tile c⟩ ⟨c.val % 32 / 4, code_row c⟩ ⟨t.val % 128, lane_pos t⟩)).extractLsb'
      (8 * (c.val % 32 % 4)) 8 := by
  rw [codes_raw, byte_of _ _ (Nat.mod_lt _ (by decide)), code_tile_eq, code_row_eq, code_byte_eq]

theorem flat_apply (n : IVec S24x2048x27 32) (b : Fin 24) (t : Fin 2048) (k : Fin 27) (h : (b.val * 2048 + t.val) * 27 + k.val < 1327104) :
    flat n (ix1 ⟨(b.val * 2048 + t.val) * 27 + k.val, h⟩)
      = IntOp.addi (IntOp.maxsi (n (ix3 b t k)) 0#32) (IntOp.muli (BitVec.ofNat 32 b.val) 2048#32) := by
  unfold flat
  pointwise

theorem maxsi_zero (n : BitVec 32) (h : n.toNat < 2048) : IntOp.maxsi n 0#32 = n := by
  have hn : n.toInt = (n.toNat : ℤ) := BitVec.toInt_eq_toNat_of_lt (by omega)
  unfold IntOp.maxsi
  split
  · rfl
  · rename_i hs
    rw [BitVec.slt_eq_decide, hn] at hs
    apply BitVec.eq_of_toNat_eq
    simp at hs
    rw [hs]
    rfl

theorem position (n b : ℕ) (hn : n < 2048) (hb : b < 24) : (BitVec.ofNat 32 (n + b * 2048)).toInt.toNat = n + b * 2048 := by
  have h1 : (BitVec.ofNat 32 (n + b * 2048)).toNat = n + b * 2048 := by
    rw [BitVec.toNat_ofNat]; omega
  rw [BitVec.toInt_eq_toNat_of_lt (by rw [h1]; omega), h1, Int.toNat_natCast]

theorem word_sum (n : BitVec 32) (b : ℕ) : n + BitVec.ofNat 32 b * 2048#32 = BitVec.ofNat 32 (n.toNat + b * 2048) := by
  apply BitVec.eq_of_toNat_eq
  rw [BitVec.toNat_add, BitVec.toNat_mul, BitVec.toNat_ofNat, BitVec.toNat_ofNat]
  simp

theorem ix1_eq_ofFin {n : ℕ} (p : Fin n) : (ix1 p : (⟨1, ![n]⟩ : Shape).Idx) = Shape.Idx.ofFin p :=
  funext fun | ⟨0, _⟩ => rfl

/-- The take at a position whose index is in range. -/
theorem take_apply (x : S49152.Idx → EReal) (idx : IVec S1327104x1 32) (p : Fin 1327104) (q : Fin 49152)
    (hq : (idx (StableHlo.Predicate.ixP p)).toInt.toNat = q.val) :
    Host.gather gather_S49152_S1327104x1_S1327104_n_0_n_n_0_1_1 x idx (ix1 p) = x (ix1 q) := by
  have hg := StableHlo.Predicate.gather_take gather_S49152_S1327104x1_S1327104_n_0_n_n_0_1_1 rfl rfl rfl rfl x idx p (Nat.succ_pos _)
  rw [ix1_eq_ofFin, ix1_eq_ofFin]
  refine hg.trans (congrArg x (congrArg Shape.Idx.ofFin (Fin.ext ?_)))
  show min (idx (StableHlo.Predicate.ixP p)).toInt.toNat (49152 - 1) = q.val
  have := q.isLt
  rw [hq]
  omega

theorem table_lt (b : Fin 24) (n : Fin 2048) : b.val * 2048 + n.val < 49152 := by omega

/-- The table of scales at a sequence and an output of it. -/
theorem table_apply (x : FVec Ideal S24x2048 .f32) (b : Fin 24) (n : Fin 2048) :
    (shapeCast S49152 (truncf .bf16 x bitsLt_bf16_f32) shapeCasts_S24x2048_S49152 : S49152.Idx → EReal) (ix1 ⟨b.val * 2048 + n.val, table_lt b n⟩)
      = x (ix2 b n) := by
  refine (shapeCast_apply _ _ _ (ix2 b n) ?_).trans rfl
  rw [Shape.rowMajor_val_one, Shape.rowMajor_val_two]
  rfl

/-- The position a neighbour index gives. -/
theorem start_apply (n : IVec S24x2048x27 32) (b : Fin 24) (t : Fin 2048) (k : Fin 27)
    (h : (b.val * 2048 + t.val) * 27 + k.val < 1327104) (hn : (n (ix3 b t k)).toNat < 2048) :
    (broadcastInDim S1327104x1 ![0] bcast_S1327104_S1327104x1_0 (flat n)) (StableHlo.Predicate.ixP ⟨(b.val * 2048 + t.val) * 27 + k.val, h⟩)
      = BitVec.ofNat 32 ((n (ix3 b t k)).toNat + b.val * 2048) := by
  refine (broadcastInDim_apply _ _ _ _ (ix1 ⟨(b.val * 2048 + t.val) * 27 + k.val, h⟩) (fun a => match a with | ⟨0, _⟩ => rfl)).trans ?_
  rw [flat_apply, maxsi_zero _ hn]
  exact word_sum _ _

/-- The gathered scale of a neighbour there is. -/
theorem taken_apply (x : FVec Ideal S24x2048 .f32) (n : IVec S24x2048x27 32) (b : Fin 24) (t : Fin 2048) (k : Fin 27)
    (h : (b.val * 2048 + t.val) * 27 + k.val < 1327104) (hn : (n (ix3 b t k)).toNat < 2048) :
    taken x n (ix1 ⟨(b.val * 2048 + t.val) * 27 + k.val, h⟩) = x (ix2 b ⟨(n (ix3 b t k)).toNat, hn⟩) := by
  unfold taken
  refine (take_apply _ _ _ ⟨b.val * 2048 + (n (ix3 b t k)).toNat, table_lt b ⟨_, hn⟩⟩ ?_).trans (table_apply x b ⟨(n (ix3 b t k)).toNat, hn⟩)
  rw [start_apply n b t k h hn, position _ _ hn b.isLt]
  exact Nat.add_comm _ _

theorem spread_apply {e : Type} (v : S24x2048x27.Idx → e) (b : Fin 24) (c : Fin 1728) (t : Fin 2048) :
    spread v (ix3 b c t) = v (ix3 b t ⟨c.val / 64, by omega⟩) := by
  unfold spread
  pointwise

theorem ne_present (x : BitVec 32) :
    IntOp.cmpi .ne (BitVec.setWidth 32 (IntOp.cmpi .sge x 0#32)) 0#32 = BitVec.ofBool (!x.slt 0#32) := by
  show BitVec.ofBool (BitVec.setWidth 32 (BitVec.ofBool ((0#32).sle x)) != 0#32) = _
  rw [BitVec.sle_eq_not_slt]
  cases x.slt 0#32 <;> rfl

theorem present_apply (n : IVec S24x2048x27 32) (b : Fin 24) (t : Fin 2048) (k : Fin 27) :
    IntOp.cmpi .ne (present n (ix3 b t k)) 0#32 = BitVec.ofBool (!(n (ix3 b t k)).slt 0#32) := by
  unfold present
  pointwise
  exact ne_present _

variable (m : (ℓ : Loc nD τ sig) → Buf (Elt Ideal) ℓ) (c : Dev nD)

theorem V_v12 : V m c main_v12 = codes (m ((c : Thread nD τ).loc main_arg2)) := by
  show StableHlo.after (List.flatten [hostOps0, hostOps0_1, hostOps0_2]) (fun b => m (c, b)) (Proc.devRef .tc main_v12) = _
  simp only [hostOps0, hostOps0_1, hostOps0_2, List.flatten_cons, List.flatten_nil, List.append_nil, List.cons_append, List.nil_append]
  after_results
  rfl

theorem V_v28 : V m c main_v28 = spread (shapeCast S24x2048x27 (taken (m ((c : Thread nD τ).loc main_arg0)) (m ((c : Thread nD τ).loc main_arg1))) shapeCasts_S1327104_S24x2048x27) := by
  show StableHlo.after (List.flatten [hostOps0, hostOps0_1, hostOps0_2]) (fun b => m (c, b)) (Proc.devRef .tc main_v28) = _
  simp only [hostOps0, hostOps0_1, hostOps0_2, List.flatten_cons, List.flatten_nil, List.append_nil, List.cons_append, List.nil_append]
  after_results
  rfl

theorem V_v34 : V m c main_v34 = spread (present (m ((c : Thread nD τ).loc main_arg1))) := by
  show StableHlo.after (List.flatten [hostOps0, hostOps0_1, hostOps0_2]) (fun b => m (c, b)) (Proc.devRef .tc main_v34) = _
  simp only [hostOps0, hostOps0_1, hostOps0_2, List.flatten_cons, List.flatten_nil, List.append_nil, List.cons_append, List.nil_append]
  after_results
  rfl

theorem V_v37 : V m c main_v37 = broadcastInDim S24x80x1728 ![1, 2] bcast_S80x1728_S24x80x1728_1_2
    (transpose S80x1728 [1, 0] (shapeCast S1728x80 (m ((c : Thread nD τ).loc main_arg3)) shapeCasts_S27x64x80_S1728x80) transposes_S1728x80_S80x1728_1_0) := by
  show StableHlo.after (List.flatten [hostOps0, hostOps0_1, hostOps0_2]) (fun b => m (c, b)) (Proc.devRef .tc main_v37) = _
  simp only [hostOps0, hostOps0_1, hostOps0_2, List.flatten_cons, List.flatten_nil, List.append_nil, List.cons_append, List.nil_append]
  after_results
  rfl

theorem V_v38 : V m c main_v38 = broadcastInDim S1x80x1 ![1] bcast_S80_S1x80x1_1 (m ((c : Thread nD τ).loc main_arg4)) := by
  show StableHlo.after (List.flatten [hostOps0, hostOps0_1, hostOps0_2]) (fun b => m (c, b)) (Proc.devRef .tc main_v38) = _
  simp only [hostOps0, hostOps0_1, hostOps0_2, List.flatten_cons, List.flatten_nil, List.append_nil, List.cons_append, List.nil_append]
  after_results

theorem V_v39 : V m c main_v39 = broadcastInDim S1x80x1 ![1] bcast_S80_S1x80x1_1 (m ((c : Thread nD τ).loc main_arg5)) := by
  show StableHlo.after (List.flatten [hostOps0, hostOps0_1, hostOps0_2]) (fun b => m (c, b)) (Proc.devRef .tc main_v39) = _
  simp only [hostOps0, hostOps0_1, hostOps0_2, List.flatten_cons, List.flatten_nil, List.append_nil, List.cons_append, List.nil_append]
  after_results

end Cert.ReferenceIdeal.Host
-- ==== Proof.RefRun.lean ====
/- The reference's run: each of its two result arrays is the value its one body computes from the operands the host
   operations made, and the arguments are unchanged. -/
module

public import proofs.«01_k».proof.Proof.Gen.ReferenceIdeal.Frame
public import Idealize.ShloMosaic.Lib.Pipeline.Value

@[expose] public section

noncomputable section

namespace Cert.ReferenceIdeal.Value

open Cert.ReferenceIdeal Cert.ReferenceIdeal.Gen Idealize.ShloMosaic Idealize.ShloMosaic.TcCoe Idealize.SL.Sem
open Idealize.ShloMosaic.Pipeline (Dat)

variable {F : FTy → Type} [FloatOps F]
variable (m : (ℓ : Loc nD τ sig) → Buf (Elt F) ℓ) (ρ : Dev nD → PrngReg)

/-- What the one point writes back to result 0's array. -/
theorem flushed6 (c : Dev nD) (t : Fin cfg0.N) :
    (dats m 0 c).flushed 6 t = (cfg0.win 6).cut (grid0.coords t) (out0_6 (iblk m c 0 t) (iblk m c 1 t) (iblk m c 2 t) (iblk m c 3 t) (iblk m c 4 t) (iblk m c 5 t)) := by
  show (cfg0.win 6).cut (grid0.coords t) ((dats m 0 c).after 6 t) = _
  rw [after0_6]

theorem idx_inj6 : ∀ t t' : Fin cfg0.N, win0_6.index t = win0_6.index t' → t = t' :=
  (by decide +kernel : ∀ t t' : Fin grid0.N, win0_6.index t = win0_6.index t' → t = t')

theorem disjoint6 : ∀ t t' : Fin cfg0.N, (cfg0.win 6).flush t = true → (cfg0.win 6).flush t' = true → t ≠ t' →
    Disjoint ((cfg0.win 6).blk t).view.set ((cfg0.win 6).blk t').view.set :=
  fun t t' _ _ hne => (cfg0.win 6).disjoint_blk fun h => hne (idx_inj6 t t' h)

/-- The block of the final array is what the point wrote back. -/
theorem blocks6 (c : Dev nD) (t : Fin cfg0.N) (hf : (cfg0.win 6).flush t = true) :
    ((cfg0.win 6).blk t).view.read (Elt F) ((dats m 0 c).arrAt 6 cfg0.N) = (dats m 0 c).flushed 6 t :=
  (dats m 0 c).read_blk_arrAt_eq_flushed 6 disjoint6 cfg0.N t t.isLt hf

theorem post6 (r : PUnit × MemSt nD τ sig (Elt F)) (h : Pipeline.FramePost cfgs (dats m) 0 (V m) r) (c : Dev nD) :
    r.2.mem ((c : Thread nD τ).loc main_v40_0) = (dats m 0 c).arrAt 6 cfg0.N :=
  (h c).1 6

/-- What the one point writes back to result 1's array. -/
theorem flushed7 (c : Dev nD) (t : Fin cfg0.N) :
    (dats m 0 c).flushed 7 t = (cfg0.win 7).cut (grid0.coords t) (out0_7 (iblk m c 0 t) (iblk m c 1 t) (iblk m c 2 t) (iblk m c 3 t) (iblk m c 4 t) (iblk m c 5 t)) := by
  show (cfg0.win 7).cut (grid0.coords t) ((dats m 0 c).after 7 t) = _
  rw [after0_7]

theorem idx_inj7 : ∀ t t' : Fin cfg0.N, win0_7.index t = win0_7.index t' → t = t' :=
  (by decide +kernel : ∀ t t' : Fin grid0.N, win0_7.index t = win0_7.index t' → t = t')

theorem disjoint7 : ∀ t t' : Fin cfg0.N, (cfg0.win 7).flush t = true → (cfg0.win 7).flush t' = true → t ≠ t' →
    Disjoint ((cfg0.win 7).blk t).view.set ((cfg0.win 7).blk t').view.set :=
  fun t t' _ _ hne => (cfg0.win 7).disjoint_blk fun h => hne (idx_inj7 t t' h)

/-- The block of the final array is what the point wrote back. -/
theorem blocks7 (c : Dev nD) (t : Fin cfg0.N) (hf : (cfg0.win 7).flush t = true) :
    ((cfg0.win 7).blk t).view.read (Elt F) ((dats m 0 c).arrAt 7 cfg0.N) = (dats m 0 c).flushed 7 t :=
  (dats m 0 c).read_blk_arrAt_eq_flushed 7 disjoint7 cfg0.N t t.isLt hf

theorem post7 (r : PUnit × MemSt nD τ sig (Elt F)) (h : Pipeline.FramePost cfgs (dats m) 0 (V m) r) (c : Dev nD) :
    r.2.mem ((c : Thread nD τ).loc main_v40_1) = (dats m 0 c).arrAt 7 cfg0.N :=
  (h c).1 7

theorem kept_main_arg0 (r : PUnit × MemSt nD τ sig (Elt F)) (h : Pipeline.FramePost cfgs (dats m) 0 (V m) r) (c : Dev nD) :
    r.2.mem ((c : Thread nD τ).loc main_arg0) = m ((c : Thread nD τ).loc main_arg0) :=
  ((h c).2 main_arg0 (Pipeline.mem_restRefs_of main_arg0 (by decide) (by decide))).trans (V_main_arg0 m c)

theorem kept_main_arg1 (r : PUnit × MemSt nD τ sig (Elt F)) (h : Pipeline.FramePost cfgs (dats m) 0 (V m) r) (c : Dev nD) :
    r.2.mem ((c : Thread nD τ).loc main_arg1) = m ((c : Thread nD τ).loc main_arg1) :=
  ((h c).2 main_arg1 (Pipeline.mem_restRefs_of main_arg1 (by decide) (by decide))).trans (V_main_arg1 m c)

theorem kept_main_arg2 (r : PUnit × MemSt nD τ sig (Elt F)) (h : Pipeline.FramePost cfgs (dats m) 0 (V m) r) (c : Dev nD) :
    r.2.mem ((c : Thread nD τ).loc main_arg2) = m ((c : Thread nD τ).loc main_arg2) :=
  ((h c).2 main_arg2 (Pipeline.mem_restRefs_of main_arg2 (by decide) (by decide))).trans (V_main_arg2 m c)

theorem kept_main_arg3 (r : PUnit × MemSt nD τ sig (Elt F)) (h : Pipeline.FramePost cfgs (dats m) 0 (V m) r) (c : Dev nD) :
    r.2.mem ((c : Thread nD τ).loc main_arg3) = m ((c : Thread nD τ).loc main_arg3) :=
  ((h c).2 main_arg3 (Pipeline.mem_restRefs_of main_arg3 (by decide) (by decide))).trans (V_main_arg3 m c)

theorem kept_main_arg4 (r : PUnit × MemSt nD τ sig (Elt F)) (h : Pipeline.FramePost cfgs (dats m) 0 (V m) r) (c : Dev nD) :
    r.2.mem ((c : Thread nD τ).loc main_arg4) = m ((c : Thread nD τ).loc main_arg4) :=
  ((h c).2 main_arg4 (Pipeline.mem_restRefs_of main_arg4 (by decide) (by decide))).trans (V_main_arg4 m c)

theorem kept_main_arg5 (r : PUnit × MemSt nD τ sig (Elt F)) (h : Pipeline.FramePost cfgs (dats m) 0 (V m) r) (c : Dev nD) :
    r.2.mem ((c : Thread nD τ).loc main_arg5) = m ((c : Thread nD τ).loc main_arg5) :=
  ((h c).2 main_arg5 (Pipeline.mem_restRefs_of main_arg5 (by decide) (by decide))).trans (V_main_arg5 m c)

/-- The run with the result arrays named and the arguments unchanged. -/
theorem run_blocks : θ_run defs (onTc (τ := τ) (main (F := F))) ⟨m, fun _ => 0, ρ⟩ fun r => ∀ c : Dev nD,
      r.2.mem ((c : Thread nD τ).loc main_v40_0) = (dats m 0 c).arrAt 6 cfg0.N
      ∧ r.2.mem ((c : Thread nD τ).loc main_v40_1) = (dats m 0 c).arrAt 7 cfg0.N
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3)
      ∧ r.2.mem ((c : Thread nD τ).loc main_arg4) = m ((c : Thread nD τ).loc main_arg4)
      ∧ r.2.mem ((c : Thread nD τ).loc main_arg5) = m ((c : Thread nD τ).loc main_arg5) :=
  (θ_run defs _ _).mono (fun r h c => ⟨post6 m r h c, post7 m r h c, kept_main_arg0 m r h c, kept_main_arg1 m r h c,
      kept_main_arg2 m r h c, kept_main_arg3 m r h c, kept_main_arg4 m r h c, kept_main_arg5 m r h c⟩)
    (run_main m ρ)

/-! ### The operands are whole arrays -/

theorem whole_pos (d n : ℕ) : 0 * d + 1 * n = n := by omega

theorem emb0 (t : Fin cfg0.N) (i : S24x1728x2048.Idx) : ((cfg0.win 0).blk t).view.emb i = i :=
  funext fun a => Fin.ext (match a with
    | ⟨0, _⟩ => show 0 * 24 + 1 * (i 0).val = (i 0).val from whole_pos _ _
    | ⟨1, _⟩ => show 0 * 1728 + 1 * (i 1).val = (i 1).val from whole_pos _ _
    | ⟨2, _⟩ => show 0 * 2048 + 1 * (i 2).val = (i 2).val from whole_pos _ _)

theorem iblk0 (c : Dev nD) (t : Fin cfg0.N) : iblk m c 0 t = V m c main_v12 :=
  funext fun i => congrArg (V m c main_v12) (emb0 t i)

theorem emb1 (t : Fin cfg0.N) (i : S24x1728x2048.Idx) : ((cfg0.win 1).blk t).view.emb i = i :=
  funext fun a => Fin.ext (match a with
    | ⟨0, _⟩ => show 0 * 24 + 1 * (i 0).val = (i 0).val from whole_pos _ _
    | ⟨1, _⟩ => show 0 * 1728 + 1 * (i 1).val = (i 1).val from whole_pos _ _
    | ⟨2, _⟩ => show 0 * 2048 + 1 * (i 2).val = (i 2).val from whole_pos _ _)

theorem iblk1 (c : Dev nD) (t : Fin cfg0.N) : iblk m c 1 t = V m c main_v28 :=
  funext fun i => congrArg (V m c main_v28) (emb1 t i)

theorem emb2 (t : Fin cfg0.N) (i : S24x1728x2048.Idx) : ((cfg0.win 2).blk t).view.emb i = i :=
  funext fun a => Fin.ext (match a with
    | ⟨0, _⟩ => show 0 * 24 + 1 * (i 0).val = (i 0).val from whole_pos _ _
    | ⟨1, _⟩ => show 0 * 1728 + 1 * (i 1).val = (i 1).val from whole_pos _ _
    | ⟨2, _⟩ => show 0 * 2048 + 1 * (i 2).val = (i 2).val from whole_pos _ _)

theorem iblk2 (c : Dev nD) (t : Fin cfg0.N) : iblk m c 2 t = V m c main_v34 :=
  funext fun i => congrArg (V m c main_v34) (emb2 t i)

theorem emb3 (t : Fin cfg0.N) (i : S24x80x1728.Idx) : ((cfg0.win 3).blk t).view.emb i = i :=
  funext fun a => Fin.ext (match a with
    | ⟨0, _⟩ => show 0 * 24 + 1 * (i 0).val = (i 0).val from whole_pos _ _
    | ⟨1, _⟩ => show 0 * 80 + 1 * (i 1).val = (i 1).val from whole_pos _ _
    | ⟨2, _⟩ => show 0 * 1728 + 1 * (i 2).val = (i 2).val from whole_pos _ _)

theorem iblk3 (c : Dev nD) (t : Fin cfg0.N) : iblk m c 3 t = V m c main_v37 :=
  funext fun i => congrArg (V m c main_v37) (emb3 t i)

theorem emb4 (t : Fin cfg0.N) (i : S1x80x1.Idx) : ((cfg0.win 4).blk t).view.emb i = i :=
  funext fun a => Fin.ext (match a with
    | ⟨0, _⟩ => show 0 * 1 + 1 * (i 0).val = (i 0).val from whole_pos _ _
    | ⟨1, _⟩ => show 0 * 80 + 1 * (i 1).val = (i 1).val from whole_pos _ _
    | ⟨2, _⟩ => show 0 * 1 + 1 * (i 2).val = (i 2).val from whole_pos _ _)

theorem iblk4 (c : Dev nD) (t : Fin cfg0.N) : iblk m c 4 t = V m c main_v38 :=
  funext fun i => congrArg (V m c main_v38) (emb4 t i)

theorem emb5 (t : Fin cfg0.N) (i : S1x80x1.Idx) : ((cfg0.win 5).blk t).view.emb i = i :=
  funext fun a => Fin.ext (match a with
    | ⟨0, _⟩ => show 0 * 1 + 1 * (i 0).val = (i 0).val from whole_pos _ _
    | ⟨1, _⟩ => show 0 * 80 + 1 * (i 1).val = (i 1).val from whole_pos _ _
    | ⟨2, _⟩ => show 0 * 1 + 1 * (i 2).val = (i 2).val from whole_pos _ _)

theorem iblk5 (c : Dev nD) (t : Fin cfg0.N) : iblk m c 5 t = V m c main_v39 :=
  funext fun i => congrArg (V m c main_v39) (emb5 t i)

theorem zero3 : (![0, 0, 0] : Fin 3 → ℕ) = fun _ => 0 := funext fun a => match a with | 0 => rfl | 1 => rfl | 2 => rfl

theorem zero2 : (![0, 0] : Fin 2 → ℕ) = fun _ => 0 := funext fun a => match a with | 0 => rfl | 1 => rfl

theorem ld_a {e : EltTy} (x : Vec F S24x1728x2048 e) : View.ld x r0_0 = x := View.ld_unit_zero zero3 _ x

theorem ld_b {e : EltTy} (x : Vec F S24x80x1728 e) : View.ld x r0_1 = x := View.ld_unit_zero zero3 _ x

theorem ld_c {e : EltTy} (x : Vec F S1x80x1 e) : View.ld x r0_2 = x := View.ld_unit_zero zero3 _ x

theorem point_lt : 0 < cfg0.N := by decide +kernel

theorem emb6 (t : Fin cfg0.N) (i : S24x80x2048.Idx) : ((cfg0.win 6).blk t).view.emb i = i :=
  funext fun a => Fin.ext (match a with
    | ⟨0, _⟩ => show 0 * 24 + 1 * (i 0).val = (i 0).val from whole_pos _ _
    | ⟨1, _⟩ => show 0 * 80 + 1 * (i 1).val = (i 1).val from whole_pos _ _
    | ⟨2, _⟩ => show 0 * 2048 + 1 * (i 2).val = (i 2).val from whole_pos _ _)

theorem out6_eq (x0 : Vec F S24x1728x2048 .i8) (x1 : Vec F S24x1728x2048 .bf16) (x2 : Vec F S24x1728x2048 .i32) (x3 : Vec F S24x80x1728 .bf16)
    (x4 x5 : Vec F S1x80x1 .f32) : out0_6 x0 x1 x2 x3 x4 x5 = k0_pay3 (k0_pay4 x0 x1 x2 x3 x4 x5) (k0_pay5 x0 x1 x2 x3 x4 x5) (k0_pay6 x0 x1 x2 x3 x4 x5) := by
  unfold out0_6 k0_pay7 k0_pay8
  rw [ld_a x0, ld_a x1, ld_a x2, ld_b x3, ld_c x4, ld_c x5]
  exact View.canon_unit_zero zero3 _ _

theorem read6 (f : S24x80x2048.Idx → Elt F (cfg0.win 6).elt) (t : Fin cfg0.N) : ((cfg0.win 6).blk t).view.read (Elt F) f = f :=
  funext fun i => congrArg f (emb6 t i)

/-- Result 0's array after the run. -/
theorem array6 (c : Dev nD) : (dats m 0 c).arrAt 6 cfg0.N
    = k0_pay3 (k0_pay4 (V m c main_v12) (V m c main_v28) (V m c main_v34) (V m c main_v37) (V m c main_v38) (V m c main_v39)) (k0_pay5 (V m c main_v12) (V m c main_v28) (V m c main_v34) (V m c main_v37) (V m c main_v38) (V m c main_v39)) (k0_pay6 (V m c main_v12) (V m c main_v28) (V m c main_v34) (V m c main_v37) (V m c main_v38) (V m c main_v39)) := by
  refine (read6 _ ⟨0, point_lt⟩).symm.trans ((blocks6 m c ⟨0, point_lt⟩ (by decide +kernel)).trans ((flushed6 m c ⟨0, point_lt⟩).trans ?_))
  rw [iblk0, iblk1, iblk2, iblk3, iblk4, iblk5, out6_eq]
  rfl

theorem emb7 (t : Fin cfg0.N) (i : S24x2048.Idx) : ((cfg0.win 7).blk t).view.emb i = i :=
  funext fun a => Fin.ext (match a with
    | ⟨0, _⟩ => show 0 * 24 + 1 * (i 0).val = (i 0).val from whole_pos _ _
    | ⟨1, _⟩ => show 0 * 2048 + 1 * (i 1).val = (i 1).val from whole_pos _ _)

theorem out7_eq (x0 : Vec F S24x1728x2048 .i8) (x1 : Vec F S24x1728x2048 .bf16) (x2 : Vec F S24x1728x2048 .i32) (x3 : Vec F S24x80x1728 .bf16)
    (x4 x5 : Vec F S1x80x1 .f32) : out0_7 x0 x1 x2 x3 x4 x5 = k0_pay2 (k0_pay5 x0 x1 x2 x3 x4 x5) (k0_pay6 x0 x1 x2 x3 x4 x5) := by
  unfold out0_7 k0_pay7 k0_pay8
  rw [ld_a x0, ld_a x1, ld_a x2, ld_b x3, ld_c x4, ld_c x5]
  exact View.canon_unit_zero zero2 _ _

theorem read7 (f : S24x2048.Idx → Elt F (cfg0.win 7).elt) (t : Fin cfg0.N) : ((cfg0.win 7).blk t).view.read (Elt F) f = f :=
  funext fun i => congrArg f (emb7 t i)

/-- Result 1's array after the run. -/
theorem array7 (c : Dev nD) : (dats m 0 c).arrAt 7 cfg0.N
    = k0_pay2 (k0_pay5 (V m c main_v12) (V m c main_v28) (V m c main_v34) (V m c main_v37) (V m c main_v38) (V m c main_v39)) (k0_pay6 (V m c main_v12) (V m c main_v28) (V m c main_v34) (V m c main_v37) (V m c main_v38) (V m c main_v39)) := by
  refine (read7 _ ⟨0, point_lt⟩).symm.trans ((blocks7 m c ⟨0, point_lt⟩ (by decide +kernel)).trans ((flushed7 m c ⟨0, point_lt⟩).trans ?_))
  rw [iblk0, iblk1, iblk2, iblk3, iblk4, iblk5, out7_eq]
  rfl

end Cert.ReferenceIdeal.Value
-- ==== Proof.RefValue.lean ====
/- The reference's two results at an entry, in terms of the argument arrays: the quantiser with its exponent written
   by logarithms, applied to the formula of Spec.lean. -/
module

public import proofs.«01_k».proof.Proof.RefHost
public import proofs.«01_k».proof.Proof.RefRun

@[expose] public section

noncomputable section

namespace Cert.ReferenceIdeal.Arrays

open Idealize.ShloMosaic Idealize.ShloMosaic.TcCoe Idealize.SL.Sem Cert.ReferenceIdeal.Gen Cert.ReferenceIdeal.Host
open Cert.KernelIdeal.Model (top recip)
open Cert.Math (nbScale rexp)

/-! ### The body's values at an entry -/

theorem pay4_apply (v0 : Vec Ideal S24x1728x2048 .i8) (v4 : Vec Ideal S24x1728x2048 .bf16) (v7 : Vec Ideal S24x1728x2048 .i32)
    (v13 : Vec Ideal S24x80x1728 .bf16) (v16 v20 : Vec Ideal S1x80x1 .f32) (b : Fin 24) (o : Fin 80) (t : Fin 2048) :
    k0_pay4 v0 v4 v7 v13 v16 v20 (ix3 b o t) = max ((∑ x : Fin 1728, Scalar.select (IntOp.cmpi .ne (v7 (ix3 b x t)) 0#32)
      (v13 (ix3 b o x) * (Ideal.ofBits .fp8e4m3 (v0 (ix3 b x t)) * v4 (ix3 b x t))) (0 : EReal)) * v16 (ix3 0 o 0) + v20 (ix3 0 o 0)) 0 := by
  unfold k0_pay4
  pointwise

theorem pay5_apply (v0 : Vec Ideal S24x1728x2048 .i8) (v4 : Vec Ideal S24x1728x2048 .bf16) (v7 : Vec Ideal S24x1728x2048 .i32)
    (v13 : Vec Ideal S24x80x1728 .bf16) (v16 v20 : Vec Ideal S1x80x1 .f32) (b : Fin 24) (t : Fin 2048) :
    k0_pay5 v0 v4 v7 v13 v16 v20 (ix2 b t) = Finset.fold max (Ideal.ofBits .f32 4286578688#32)
      (fun x => FloatOps.absf (F := Ideal) (φ := .f32) (k0_pay4 v0 v4 v7 v13 v16 v20 (ix3 b x t))) (Finset.univ : Finset (Fin 80)) := by
  unfold k0_pay5
  pointwise

/-- The exponent, from the column's maximum and the floored logarithm. -/
def expOf (a f : EReal) : EReal := if a = 0 then 0 else max (f + 1) (Ideal.ofBits .f32 3271294976#32)

theorem pay1_apply (a f : FVec Ideal S24x2048 .f32) (b : Fin 24) (t : Fin 2048) :
    k0_pay1 a f (ix2 b t) = expOf (a (ix2 b t)) (f (ix2 b t)) := by
  unfold k0_pay1 expOf
  pointwise

theorem pay2_apply (a f : FVec Ideal S24x2048 .f32) (b : Fin 24) (t : Fin 2048) :
    k0_pay2 a f (ix2 b t) = Ideal.exp2 (expOf (a (ix2 b t)) (f (ix2 b t))) := by
  rw [← pay1_apply]
  rfl

theorem pay3_apply (y : FVec Ideal S24x80x2048 .f32) (a f : FVec Ideal S24x2048 .f32) (b : Fin 24) (o : Fin 80) (t : Fin 2048) :
    k0_pay3 y a f (ix3 b o t) = min (Ideal.ofBits .f32 0x43E00000#32) (max (Ideal.ofBits .f32 0xC3E00000#32)
      (y (ix3 b o t) * Ideal.exp2 (0 - expOf (a (ix2 b t)) (f (ix2 b t))))) := by
  rw [← pay1_apply]
  unfold k0_pay3
  pointwise
  rfl

theorem ofBits_ideal (b : BitVec 32) : Scalar.ofBits (F := Ideal) .f32 b = Ideal.ofBits .f32 b := rfl

theorem floor_log (a : FVec Ideal S24x2048 .f32) (p q : Ideal .f32) (i : S24x2048.Idx) :
    floor (divf (log (mulf a (broadcast S24x2048 p))) (log (broadcast S24x2048 q))) i
      = Ideal.liftRound Int.floor (Ideal.div (Ideal.log (a i * p)) (Ideal.log q)) := rfl

theorem pay6_eq (v0 : Vec Ideal S24x1728x2048 .i8) (v4 : Vec Ideal S24x1728x2048 .bf16) (v7 : Vec Ideal S24x1728x2048 .i32)
    (v13 : Vec Ideal S24x80x1728 .bf16) (v16 v20 : Vec Ideal S1x80x1 .f32) :
    k0_pay6 v0 v4 v7 v13 v16 v20 = floor (divf (log (mulf (k0_pay5 v0 v4 v7 v13 v16 v20)
      (broadcast S24x2048 (Scalar.ofBits .f32 0x3B124925#32)))) (log (broadcast S24x2048 (Scalar.ofBits .f32 0x40000000#32)))) := by
  unfold k0_pay6
  rfl

theorem pay6_apply (v0 : Vec Ideal S24x1728x2048 .i8) (v4 : Vec Ideal S24x1728x2048 .bf16) (v7 : Vec Ideal S24x1728x2048 .i32)
    (v13 : Vec Ideal S24x80x1728 .bf16) (v16 v20 : Vec Ideal S1x80x1 .f32) (b : Fin 24) (t : Fin 2048) :
    k0_pay6 v0 v4 v7 v13 v16 v20 (ix2 b t) = Ideal.liftRound Int.floor (Ideal.div (Ideal.log (k0_pay5 v0 v4 v7 v13 v16 v20 (ix2 b t) * recip))
      (Ideal.log (Ideal.ofBits .f32 0x40000000#32))) := by
  rw [pay6_eq, floor_log, ofBits_ideal, ofBits_ideal]
  unfold recip
  with_reducible rfl

theorem two_bits : Ideal.ofBits .f32 0x40000000#32 = 2 := by
  have h := Cert.Math.ofBits_field 128 (by decide) (by decide)
  have e : BitVec.ofNat 32 128 <<< 23 = 0x40000000#32 := rfl
  rw [e] at h
  rw [h]
  norm_num
  rfl

theorem low_bits : Ideal.ofBits .f32 3271294976#32 = -126 := by
  simp [Ideal.ofBits, Ideal.ieee]
  norm_num
  rw [show (126 : EReal) = ((126 : ℝ) : EReal) from rfl, ← EReal.coe_mul]
  norm_num

theorem bot_bits : Ideal.ofBits .f32 4286578688#32 = ⊥ := by
  simp [Ideal.ofBits, Ideal.ieee]

/-! ### The operands at an entry -/

variable (m : (ℓ : Loc nD τ sig) → Buf (Elt Ideal) ℓ) (c : Dev nD)

/-- The argument arrays, by coordinates. -/
def args : Cert.Math.Args where
  scale b n := (m ((c : Thread nD τ).loc main_arg0) : Vec Ideal S24x2048 .f32) (ix2 b n)
  nbr b t k := (m ((c : Thread nD τ).loc main_arg1) : Vec Ideal S24x2048x27 .i32) (ix3 b t k)
  words b j i r l := (m ((c : Thread nD τ).loc main_arg2) : Vec Ideal S24x16x54x8x128 .i32) (ix5 b j i r l)
  weight k h o := (m ((c : Thread nD τ).loc main_arg3) : Vec Ideal S27x64x80 .bf16) (ix3 k h o)
  wscale o := (m ((c : Thread nD τ).loc main_arg4) : Vec Ideal S80 .f32) (ix1 o)
  bias o := (m ((c : Thread nD τ).loc main_arg5) : Vec Ideal S80 .f32) (ix1 o)

theorem nb_lt (x : Fin 1728) : x.val / 64 < 27 := by omega

theorem in_lt (x : Fin 1728) : x.val % 64 < 64 := by omega

theorem v12_apply (b : Fin 24) (x : Fin 1728) (t : Fin 2048) :
    Ideal.ofBits .fp8e4m3 ((V m c main_v12 : Vec Ideal S24x1728x2048 .i8) (ix3 b x t)) = (args m c).code b t x := by
  rw [V_v12]
  exact congrArg (Ideal.ofBits .fp8e4m3) (codes_apply _ b x t)

theorem v34_apply (b : Fin 24) (x : Fin 1728) (t : Fin 2048) :
    IntOp.cmpi .ne ((V m c main_v34 : Vec Ideal S24x1728x2048 .i32) (ix3 b x t)) 0#32
      = BitVec.ofBool (!((args m c).nbr b t ⟨x.val / 64, nb_lt x⟩).slt 0#32) := by
  rw [V_v34]
  exact (congrArg (fun w => IntOp.cmpi .ne w 0#32) (spread_apply _ b x t)).trans (present_apply _ b t ⟨x.val / 64, nb_lt x⟩)

theorem taken_lt (b : Fin 24) (t : Fin 2048) (k : Fin 27) : (b.val * 2048 + t.val) * 27 + k.val < 1327104 := by omega

theorem v28_apply (b : Fin 24) (x : Fin 1728) (t : Fin 2048) (hn : ((args m c).nbr b t ⟨x.val / 64, nb_lt x⟩).toNat < 2048) :
    (V m c main_v28 : Vec Ideal S24x1728x2048 .bf16) (ix3 b x t) = (args m c).scale b ⟨((args m c).nbr b t ⟨x.val / 64, nb_lt x⟩).toNat, hn⟩ := by
  rw [V_v28]
  refine (spread_apply _ b x t).trans ?_
  refine (shapeCast_apply _ _ _ (ix1 ⟨(b.val * 2048 + t.val) * 27 + x.val / 64, taken_lt b t ⟨x.val / 64, nb_lt x⟩⟩) ?_).trans
    (taken_apply _ _ b t ⟨x.val / 64, nb_lt x⟩ _ hn)
  rw [Shape.rowMajor_val_three, Shape.rowMajor_val_one]
  rfl

theorem weight_apply (w : Vec Ideal S27x64x80 .bf16) (b : Fin 24) (o : Fin 80) (x : Fin 1728) :
    (broadcastInDim S24x80x1728 ![1, 2] bcast_S80x1728_S24x80x1728_1_2
      (transpose S80x1728 [1, 0] (shapeCast S1728x80 w shapeCasts_S27x64x80_S1728x80) transposes_S1728x80_S80x1728_1_0)) (ix3 b o x)
      = w (ix3 ⟨x.val / 64, nb_lt x⟩ ⟨x.val % 64, in_lt x⟩ o) := by
  pointwise

theorem v37_apply (b : Fin 24) (o : Fin 80) (x : Fin 1728) :
    (V m c main_v37 : Vec Ideal S24x80x1728 .bf16) (ix3 b o x) = (args m c).wt o x := by
  rw [V_v37]
  exact weight_apply _ b o x

theorem col_apply (w : Vec Ideal S80 .f32) (o : Fin 80) :
    broadcastInDim S1x80x1 ![1] bcast_S80_S1x80x1_1 w (ix3 0 o 0) = w (ix1 o) := by
  pointwise

theorem v38_apply (o : Fin 80) : (V m c main_v38 : Vec Ideal S1x80x1 .f32) (ix3 0 o 0) = (args m c).wscale o := by
  rw [V_v38]
  exact col_apply _ o

theorem v39_apply (o : Fin 80) : (V m c main_v39 : Vec Ideal S1x80x1 .f32) (ix3 0 o 0) = (args m c).bias o := by
  rw [V_v39]
  exact col_apply _ o

/-! ### The results at an entry -/

variable (hn : ∀ b t k, ((args m c).nbr b t k).slt 0#32 = true ∨ ((args m c).nbr b t k).toNat < 2048)

/-- A term of the sum: a neighbour there is not counts as zero. -/
theorem term_eq (n : BitVec 32) (x : Fin 2048 → EReal) (w q s : EReal)
    (hn : n.slt 0#32 = true ∨ n.toNat < 2048) (hs : ∀ h : n.toNat < 2048, s = x ⟨n.toNat, h⟩) :
    Scalar.select (BitVec.ofBool (!n.slt 0#32)) (w * (q * s)) 0 = w * (q * nbScale x n) := by
  unfold nbScale
  cases h : n.slt 0#32 with
  | true =>
    rw [if_pos rfl, mul_zero, mul_zero]
    rfl
  | false =>
    have h2 : n.toNat < 2048 := hn.resolve_left (by rw [h]; decide)
    rw [if_neg (by decide), dif_pos h2, hs h2]
    rfl

include hn

/-- The entry before quantisation. -/
theorem y_eq (b : Fin 24) (o : Fin 80) (t : Fin 2048) :
    k0_pay4 (V m c main_v12) (V m c main_v28) (V m c main_v34) (V m c main_v37) (V m c main_v38) (V m c main_v39) (ix3 b o t)
      = (args m c).y b t o := by
  rw [pay4_apply, v38_apply, v39_apply]
  unfold Cert.Math.Args.y Cert.Math.Args.chan
  refine congrArg (fun s => max (s * (args m c).wscale o + (args m c).bias o) 0) (Finset.sum_congr rfl fun x _ => ?_)
  rw [v12_apply, v34_apply, v37_apply]
  exact term_eq _ _ _ _ _ (hn _ _ _) (fun h => v28_apply m c b x t h)

/-- The column's maximum. -/
theorem top_eq (b : Fin 24) (t : Fin 2048) :
    k0_pay5 (V m c main_v12) (V m c main_v28) (V m c main_v34) (V m c main_v37) (V m c main_v38) (V m c main_v39) (ix2 b t)
      = top ((args m c).y b t) := by
  rw [pay5_apply, bot_bits]
  unfold top
  refine congrArg (fun f => Finset.fold max ⊥ f Finset.univ) (funext fun o => ?_)
  rw [y_eq m c hn]
  have h0 : 0 ≤ (args m c).y b t o := le_max_right _ _
  show max ((args m c).y b t o) (-(args m c).y b t o) = _
  exact max_eq_left ((EReal.neg_le_neg_iff.mpr h0).trans (by rw [neg_zero]; exact h0))

/-- The exponent. -/
theorem exp_eq (b : Fin 24) (t : Fin 2048) :
    expOf (k0_pay5 (V m c main_v12) (V m c main_v28) (V m c main_v34) (V m c main_v37) (V m c main_v38) (V m c main_v39) (ix2 b t))
      (k0_pay6 (V m c main_v12) (V m c main_v28) (V m c main_v34) (V m c main_v37) (V m c main_v38) (V m c main_v39) (ix2 b t))
      = rexp (top ((args m c).y b t)) recip := by
  rw [pay6_apply, top_eq m c hn, two_bits]
  unfold expOf rexp
  rw [low_bits]

/-- The first result at an entry. -/
theorem result0 (b : Fin 24) (o : Fin 80) (t : Fin 2048) :
    ((dats m 0 c).arrAt 6 cfg0.N : Vec Ideal S24x80x2048 .fp8e4m3) (ix3 b o t)
      = min (Ideal.ofBits .f32 0x43E00000#32) (max (Ideal.ofBits .f32 0xC3E00000#32)
          ((args m c).y b t o * Ideal.exp2 (-rexp (top ((args m c).y b t)) recip))) := by
  rw [Value.array6]
  refine (pay3_apply _ _ _ b o t).trans ?_
  rw [y_eq m c hn, exp_eq m c hn, zero_sub]

/-- The second result at an entry. -/
theorem result1 (b : Fin 24) (t : Fin 2048) :
    ((dats m 0 c).arrAt 7 cfg0.N : Vec Ideal S24x2048 .f32) (ix2 b t) = Ideal.exp2 (rexp (top ((args m c).y b t)) recip) := by
  rw [Value.array7]
  refine (pay2_apply _ _ b t).trans ?_
  rw [exp_eq m c hn]

end Cert.ReferenceIdeal.Arrays
-- ==== Proof.Bounds.lean ====
/- How large the layer's values are for arguments in range, and what follows: the column's maximum is a real number
   the two ways of finding the scale's exponent agree on. -/
module

public import proofs.«01_k».proof.Proof.Words
public import proofs.«01_k».proof.Proof.Spec

@[expose] public section

noncomputable section

namespace Cert.Math

open Idealize.ShloMosaic
open Cert.KernelIdeal.Model (top recip)
open Cert.KernelIdeal.Model (IsScale)
open scoped BigOperators

/-- The value is a real number of magnitude at most `B`. -/
def Within (x : EReal) (B : ℝ) : Prop := ∃ r : ℝ, x = (r : EReal) ∧ |r| ≤ B

theorem Within.mul {x y : EReal} {B C : ℝ} (hx : Within x B) (hy : Within y C) : Within (x * y) (B * C) := by
  obtain ⟨r, rfl, hr⟩ := hx
  obtain ⟨s, rfl, hs⟩ := hy
  refine ⟨r * s, (EReal.coe_mul r s).symm, ?_⟩
  rw [abs_mul]
  exact mul_le_mul hr hs (abs_nonneg _) ((abs_nonneg _).trans hr)

theorem Within.add {x y : EReal} {B C : ℝ} (hx : Within x B) (hy : Within y C) : Within (x + y) (B + C) := by
  obtain ⟨r, rfl, hr⟩ := hx
  obtain ⟨s, rfl, hs⟩ := hy
  exact ⟨r + s, (EReal.coe_add r s).symm, (abs_add_le r s).trans (add_le_add hr hs)⟩

theorem Within.sum {ι : Type} (s : Finset ι) (f : ι → EReal) {B : ℝ} (h : ∀ i, Within (f i) B) : Within (∑ i ∈ s, f i) (s.card * B) := by
  classical
  induction s using Finset.induction_on with
  | empty => exact ⟨0, by simp, by simp⟩
  | insert a s ha ih =>
    rw [Finset.sum_insert ha, Finset.card_insert_of_notMem ha]
    obtain ⟨r, hr, hb⟩ := (h a).add ih
    refine ⟨r, hr, hb.trans (le_of_eq ?_)⟩
    push_cast
    ring

theorem Within.mono {x : EReal} {B C : ℝ} (hx : Within x B) (h : B ≤ C) : Within x C := by
  obtain ⟨r, e, hr⟩ := hx
  exact ⟨r, e, hr.trans h⟩

theorem IsScale.within {x : EReal} (h : IsScale x) : Within x (2 ^ 30) := by
  rcases h with rfl | ⟨k, h1, h2, rfl⟩
  · exact ⟨0, by simp, by simp⟩
  · refine ⟨(2 : ℝ) ^ k, rfl, ?_⟩
    rw [abs_of_nonneg (by positivity)]
    calc (2 : ℝ) ^ k ≤ (2 : ℝ) ^ (30 : ℤ) := zpow_le_zpow_right₀ (by norm_num) h2
      _ = 2 ^ 30 := by norm_num

/-- An fp8 pattern that is not a NaN is a real number of magnitude at most 448. -/
theorem fp8_within (b : BitVec 8) (h : b &&& 127#8 ≠ 127#8) : Within (Ideal.ofBits .fp8e4m3 b) 448 := by
  have hn : ¬ ((b.extractLsb' 3 4).toNat = 15 ∧ (b.extractLsb' 0 3).toNat = 7) :=
    (by decide +kernel : ∀ b : BitVec 8, b &&& 127#8 ≠ 127#8 → ¬ ((b.extractLsb' 3 4).toNat = 15 ∧ (b.extractLsb' 0 3).toNat = 7)) b h
  have he : (b.extractLsb' 3 4).toNat < 16 := (b.extractLsb' 3 4).isLt
  have hf : (b.extractLsb' 0 3).toNat < 8 := (b.extractLsb' 0 3).isLt
  change Within (Ideal.e4m3fn b) 448
  unfold Ideal.e4m3fn
  dsimp only
  generalize (b.extractLsb' 3 4).toNat = ex at hn he
  generalize (b.extractLsb' 0 3).toNat = fr at hn hf
  generalize (b.extractLsb' 7 1 == 1#1) = neg
  have hs : |(if neg = true then (-1 : ℝ) else 1)| = 1 := by cases neg <;> simp
  generalize (if neg = true then (-1 : ℝ) else 1) = sg at hs
  rw [if_neg hn]
  have hfr : (fr : ℝ) ≤ 7 := by exact_mod_cast Nat.le_of_lt_succ hf
  split
  · refine ⟨_, rfl, ?_⟩
    rw [abs_mul, abs_mul, hs, one_mul, abs_of_nonneg (by positivity), abs_of_nonneg (by positivity)]
    have : (2 : ℝ) ^ (-9 : ℤ) ≤ 1 := by norm_num
    nlinarith [show (0 : ℝ) ≤ fr by positivity]
  · refine ⟨_, rfl, ?_⟩
    rw [abs_mul, abs_mul, hs, one_mul, abs_of_nonneg (by positivity), abs_of_nonneg (by positivity)]
    push_cast
    by_cases h15 : ex = 15
    · have hf6 : (fr : ℝ) ≤ 6 := by
        have : fr ≤ 6 := by omega
        exact_mod_cast this
      subst h15
      have : (2 : ℝ) ^ (((15 : ℕ) : ℤ) - 10) = 32 := by norm_num
      rw [this]
      linarith
    · have hp : (2 : ℝ) ^ ((ex : ℤ) - 10) ≤ (2 : ℝ) ^ (4 : ℤ) := zpow_le_zpow_right₀ (by norm_num) (by omega)
      have hp0 : (0 : ℝ) ≤ (2 : ℝ) ^ ((ex : ℤ) - 10) := by positivity
      norm_num at hp
      nlinarith [show (0 : ℝ) ≤ fr by positivity]

/-- What the arguments must satisfy: scales are scales, indices negative or below 2048, the rest real and bounded. -/
structure Args.Tame (A : Args) : Prop where
  scale : ∀ b n, IsScale (A.scale b n)
  index : ∀ b t k, (A.nbr b t k).slt 0#32 = true ∨ (A.nbr b t k).toNat < 2048
  code : ∀ b j i r l k, k < 4 → Within (byteVal (A.words b j i r l) k) 448
  weight : ∀ k h o, Within (A.weight k h o) 448
  wscale : ∀ o, Within (A.wscale o) ((2 : ℝ) ^ 30)
  bias : ∀ o, Within (A.bias o) (2 ^ 30)

theorem nbScale_within (x : Fin 2048 → EReal) (n : BitVec 32) (h : ∀ i, IsScale (x i)) : Within (nbScale x n) (2 ^ 30) := by
  unfold nbScale
  split
  · exact ⟨0, by simp, by simp⟩
  · split
    · exact IsScale.within (h _)
    · exact ⟨0, by simp, by simp⟩

/-- The entry before quantisation is a real number between 0 and 2^90. -/
theorem Args.Tame.y {A : Args} (hA : A.Tame) (b : Fin 24) (t : Fin 2048) (o : Fin 80) :
    ∃ r : ℝ, A.y b t o = (r : EReal) ∧ 0 ≤ r ∧ r ≤ 2 ^ 90 := by
  have h1 : Within (∑ c : Fin 1728, A.wt o c * A.chan b t c) ((Finset.univ : Finset (Fin 1728)).card * (448 * (448 * 2 ^ 30))) :=
    Within.sum _ _ fun c => (hA.weight _ _ _).mul ((hA.code _ _ _ _ _ _ (Nat.mod_lt _ (by decide))).mul (nbScale_within _ _ (hA.scale b)))
  obtain ⟨r, hr, hb⟩ := (h1.mul (hA.wscale o)).add (hA.bias o)
  refine ⟨max r 0, ?_, le_max_right _ _, max_le ?_ (by positivity)⟩
  · unfold Args.y
    rw [hr]
    exact ((EReal.coe_strictMono.monotone).map_max (a := r) (b := 0)).symm
  · refine (le_abs_self r).trans (hb.trans ?_)
    rw [Finset.card_univ, Fintype.card_fin]
    norm_num

/-- The column's maximum is one too. -/
theorem top_real (y : Fin 80 → EReal) (h : ∀ o, ∃ r : ℝ, y o = (r : EReal) ∧ 0 ≤ r ∧ r ≤ 2 ^ 90) :
    ∃ r : ℝ, top y = (r : EReal) ∧ 0 ≤ r ∧ r ≤ 2 ^ 90 := by
  have hu : top y ≤ (((2 ^ 90 : ℝ)) : EReal) := by
    refine (Finset.fold_max_le _).mpr ⟨bot_le, fun o _ => ?_⟩
    obtain ⟨r, e, _, h2⟩ := h o
    rw [e]
    exact EReal.coe_le_coe_iff.mpr h2
  have hl : ((0 : ℝ) : EReal) ≤ top y := by
    refine (Finset.le_fold_max _).mpr (.inr ⟨0, Finset.mem_univ _, ?_⟩)
    obtain ⟨r, e, h1, _⟩ := h 0
    rw [e]
    exact EReal.coe_le_coe_iff.mpr h1
  have hb : top y ≠ ⊥ := fun e => absurd (hl.trans_eq e) (not_le.mpr (EReal.bot_lt_coe 0))
  have ht : top y ≠ ⊤ := fun e => absurd (e.symm.trans_le hu) (not_le.mpr (EReal.coe_lt_top _))
  have e : top y = ((top y).toReal : EReal) := (EReal.coe_toReal ht hb).symm
  rw [e] at hu hl
  exact ⟨_, e, EReal.coe_le_coe_iff.mp hl, EReal.coe_le_coe_iff.mp hu⟩

/-- The constant the maximum is multiplied by. -/
theorem recip_real : ∃ r : ℝ, recip = (r : EReal) ∧ 0 < r ∧ r ≤ 1 := by
  have e2 : (0x3B124925#32).extractLsb' 23 8 = 118#8 := by decide
  have e3 : (0x3B124925#32).extractLsb' 0 23 = 1198373#23 := by decide
  have e1 : ((0x3B124925#32).extractLsb' 31 1 == 1#1) = false := by decide
  change ∃ r : ℝ, Ideal.ieee 8 23 (0x3B124925#32) = (r : EReal) ∧ 0 < r ∧ r ≤ 1
  unfold Ideal.ieee
  dsimp only
  rw [e2, e3, show (8 + 23) = 31 from rfl, e1, if_neg (by decide), if_neg (by decide), if_neg (by decide)]
  refine ⟨_, rfl, ?_, ?_⟩
  · positivity
  · norm_num

variable {A : Args} (hA : A.Tame) (b : Fin 24) (t : Fin 2048)
include hA

theorem outS_eq : outS (A.y b t) = Ideal.exp2 (rexp (top (A.y b t)) recip) := by
  obtain ⟨a, ea, ha0, ha⟩ := top_real _ (fun o => hA.y b t o)
  obtain ⟨r, er, hr0, hr⟩ := recip_real
  unfold outS
  rw [ea, er]
  refine scale_eq a r ha0 hr0 ?_
  calc a * r ≤ 2 ^ 90 * 1 := mul_le_mul ha hr hr0.le (by positivity)
    _ < (2 : ℝ) ^ (126 : ℤ) := by norm_num

theorem outQ_eq (o : Fin 80) : outQ (A.y b t) o = min (Ideal.ofBits .f32 0x43E00000#32) (max (Ideal.ofBits .f32 0xC3E00000#32)
    (A.y b t o * Ideal.exp2 (-rexp (top (A.y b t)) recip))) := by
  obtain ⟨a, ea, ha0, ha⟩ := top_real _ (fun o => hA.y b t o)
  obtain ⟨r, er, hr0, hr⟩ := recip_real
  unfold outQ
  rw [ea, er, inv_eq a r ha0 hr0 ?_]
  calc a * r ≤ 2 ^ 90 * 1 := mul_le_mul ha hr hr0.le (by positivity)
    _ < (2 : ℝ) ^ (126 : ℤ) := by norm_num

end Cert.Math
-- ==== Proof.PreRange.lean ====
/- What the precondition says of the argument arrays' entries: its six conditions, each true at every entry, make the
   arguments tame. -/
module

public import proofs.«01_k».proof.Proof.Bounds
public import proofs.«01_k».proof.Proof.RefHost
public import proofs.«01_k».proof.Proof.Gen.Pre_in_range
public import Idealize.ShloMosaic.Lib.Pointwise

@[expose] public section

noncomputable section

namespace Cert.Pre_in_range

open Idealize.ShloMosaic Idealize.SL.Sem Cert.Pre_in_range.Gen Cert.Math
open Cert.KernelIdeal.Model (IsScale)

theorem of_ofBool (p : Prop) [Decidable p] (h : BitVec.ofBool (decide p) = 1#1) : p := by
  by_contra hp
  rw [decide_eq_false hp] at h
  exact absurd h (by decide)

theorem andi_one (a b : BitVec 1) (h : IntOp.andi a b = 1#1) : a = 1#1 ∧ b = 1#1 := by
  revert h
  revert a b
  decide

theorem ori_one (a b : BitVec 1) (h : IntOp.ori a b = 1#1) : a = 1#1 ∨ b = 1#1 := by
  revert h
  revert a b
  decide

/-- A value whose magnitude is at most a real number is a real number bounded by it. -/
theorem within_of_abs (x : EReal) (B : ℝ) (h : max x (-x) ≤ (B : EReal)) : Within x B := by
  have h1 : x ≤ (B : EReal) := (le_max_left _ _).trans h
  have h2 : -x ≤ (B : EReal) := (le_max_right _ _).trans h
  induction x with
  | bot => exact absurd h2 (by simp)
  | top => exact absurd h1 (by simp)
  | coe r =>
    rw [← EReal.coe_neg] at h2
    exact ⟨r, rfl, abs_le'.mpr ⟨EReal.coe_le_coe_iff.mp h1, EReal.coe_le_coe_iff.mp h2⟩⟩

/-- A positive value whose logarithm to base two is an integer between -126 and 30 is that power of two. -/
theorem scale_of_log (x lo hi two : EReal) (h2 : two = ((2 : ℝ) : EReal)) (hlo : lo = ((-126 : ℝ) : EReal)) (hhi : hi = ((30 : ℝ) : EReal))
    (h0 : 0 < x) (hf : Ideal.div (Ideal.log x) (Ideal.log two) = Ideal.liftRound Int.floor (Ideal.div (Ideal.log x) (Ideal.log two)))
    (h1 : lo ≤ Ideal.div (Ideal.log x) (Ideal.log two)) (h3 : Ideal.div (Ideal.log x) (Ideal.log two) ≤ hi) : IsScale x := by
  subst h2 hlo hhi
  have hl2 : Real.log 2 ≠ 0 := (Real.log_pos (by norm_num)).ne'
  have e2 : Ideal.log ((2 : ℝ) : EReal) = ((Real.log 2 : ℝ) : EReal) := by
    rw [Ideal.log_coe, if_neg (by norm_num)]
  induction x with
  | bot => exact absurd h0 (by simp)
  | top =>
    exfalso
    rw [e2, Ideal.div_coe hl2, show Ideal.log ⊤ = ⊤ from rfl,
      EReal.top_mul_coe_of_pos (one_div_pos.mpr (Real.log_pos (by norm_num)))] at h3
    exact absurd h3 (by simp)
  | coe q =>
    have hq : 0 < q := EReal.coe_pos.mp h0
    have e : Ideal.div (Ideal.log (q : EReal)) (Ideal.log ((2 : ℝ) : EReal)) = ((Real.log q / Real.log 2 : ℝ) : EReal) := log_div q hq
    rw [e] at hf h1 h3
    have hf' : Real.log q / Real.log 2 = ((⌊Real.log q / Real.log 2⌋ : ℤ) : ℝ) := EReal.coe_injective hf
    have h1' : -126 ≤ Real.log q / Real.log 2 := EReal.coe_le_coe_iff.mp h1
    have h3' : Real.log q / Real.log 2 ≤ 30 := EReal.coe_le_coe_iff.mp h3
    have hk := two_rpow_log q hq
    rw [hf'] at h1' h3' hk
    refine .inr ⟨⌊Real.log q / Real.log 2⌋, by exact_mod_cast h1', by exact_mod_cast h3', ?_⟩
    rw [Real.rpow_intCast] at hk
    rw [hk]

theorem two_bits' : Ideal.ofBits .f32 1073741824#32 = ((2 : ℝ) : EReal) := by
  rw [show 1073741824#32 = BitVec.ofNat 32 128 <<< 23 by decide, ofBits_field 128 (by decide) (by decide)]
  norm_num

theorem lo_bits : Ideal.ofBits .f32 3271294976#32 = ((-126 : ℝ) : EReal) := by
  simp [Ideal.ofBits, Ideal.ieee]
  norm_num
  rw [← EReal.coe_mul]
  norm_num

theorem hi_bits : Ideal.ofBits .f32 1106247680#32 = ((30 : ℝ) : EReal) := by
  simp [Ideal.ofBits, Ideal.ieee]
  rw [← EReal.coe_mul]
  norm_num

theorem big_bits : Ideal.ofBits .f32 1317011456#32 = ((2 ^ 30 : ℝ) : EReal) := by
  rw [show 1317011456#32 = BitVec.ofNat 32 157 <<< 23 by decide, ofBits_field 157 (by decide) (by decide)]
  norm_num

theorem max_bits : Ideal.ofBits .bf16 17376#16 = ((448 : ℝ) : EReal) := by
  simp [Ideal.ofBits, Ideal.ieee]
  rw [← EReal.coe_mul]
  norm_num

/-- Masking the seven low bits of the shifted word and of the byte cut out of it are the same test. -/
theorem low_bits (v : BitVec 32) (h : IntOp.andi v 127#32 ≠ 127#32) : BitVec.setWidth 8 v &&& 127#8 ≠ 127#8 := by
  intro e
  apply h
  show v &&& 127#32 = 127#32
  have : ∀ i, i < 7 → v.getLsbD i = true := fun i hi => by
    have := congrArg (fun b => b.getLsbD i) e
    interval_cases i <;> simpa using this
  apply BitVec.eq_of_getLsbD_eq
  intro i hi
  rw [BitVec.getLsbD_and]
  by_cases h7 : i < 7
  · rw [this i h7, Bool.true_and]
  · have : (127#32).getLsbD i = false := by interval_cases i <;> first | rfl | omega
    rw [this, Bool.and_false]

theorem index_of (v : BitVec 32) (h : v.slt 2048#32 = true) : v.slt 0#32 = true ∨ v.toNat < 2048 := by
  by_cases h0 : v.slt 0#32 = true
  · exact .inl h0
  · right
    rw [BitVec.slt_iff_toInt_lt] at h h0
    have e1 : (2048#32).toInt = 2048 := by decide
    have e0 : (0#32).toInt = 0 := by decide
    rw [e1] at h
    rw [e0] at h0
    rw [BitVec.toInt_eq_toNat_cond] at h h0
    split at h <;> omega

variable (x : FVec Ideal S24x2048 .f32) (n : IVec S24x2048x27 32) (g : IVec S24x16x54x8x128 32) (w : FVec Ideal S27x64x80 .bf16)
  (ws bb : FVec Ideal S80 .f32)

theorem scale_in (h : (fn x n g w ws bb).1 = fun _ => 1#1) (b : Fin 24) (i : Fin 2048) : IsScale (x (ix2 b i)) := by
  have h := congrFun h (ix2 b i)
  revert h
  unfold fn fn_part1 fn_part2
  pointwise
  intro h
  rcases ori_one _ _ h with h | h
  · exact .inl (of_ofBool _ h)
  · obtain ⟨h, h4⟩ := andi_one _ _ h
    obtain ⟨h, h3⟩ := andi_one _ _ h
    obtain ⟨h1, h2⟩ := andi_one _ _ h
    exact scale_of_log _ _ _ _ two_bits' lo_bits hi_bits (of_ofBool _ h1) (of_ofBool _ h2) (of_ofBool _ h3) (of_ofBool _ h4)

theorem index_in (h : (fn x n g w ws bb).2.1 = fun _ => 1#1) (b : Fin 24) (t : Fin 2048) (k : Fin 27) :
    (n (ix3 b t k)).slt 0#32 = true ∨ (n (ix3 b t k)).toNat < 2048 := by
  have h := congrFun h (ix3 b t k)
  revert h
  unfold fn fn_part1 fn_part2
  pointwise
  intro h
  refine index_of _ ?_
  by_contra hc
  have hc : (n (ix3 b t k)).slt 2048#32 = false := by simpa using hc
  have : IntOp.cmpi .slt (n (ix3 b t k)) 2048#32 = BitVec.ofBool ((n (ix3 b t k)).slt 2048#32) := rfl
  rw [this, hc] at h
  exact absurd h (by decide)

theorem code_in (h : (fn x n g w ws bb).2.2.1 = fun _ => 1#1) (b : Fin 24) (j : Fin 16) (i : Fin 54) (r : Fin 8) (l : Fin 128)
    (k : ℕ) (hk : k < 4) : Within (byteVal (g (ix5 b j i r l)) k) 448 := by
  have h := congrFun h (ix6 b j i r l (⟨k, hk⟩ : Fin 4))
  revert h
  unfold fn fn_part1 fn_part2
  pointwise
  intro h
  unfold byteVal
  rw [← Cert.ReferenceIdeal.Host.byte_of _ k hk]
  refine fp8_within _ (low_bits _ fun e => ?_)
  rw [e] at h
  exact absurd h (by decide)

theorem weight_in (h : (fn x n g w ws bb).2.2.2.1 = fun _ => 1#1) (k : Fin 27) (c : Fin 64) (o : Fin 80) : Within (w (ix3 k c o)) 448 := by
  have h := congrFun h (ix3 k c o)
  revert h
  unfold fn fn_part1 fn_part2
  pointwise
  intro h
  refine within_of_abs _ _ (le_trans ?_ max_bits.le)
  exact of_ofBool _ h

theorem wscale_in (h : (fn x n g w ws bb).2.2.2.2.1 = fun _ => 1#1) (o : Fin 80) : Within (ws (ix1 o)) (2 ^ 30) := by
  have h := congrFun h (ix1 o)
  revert h
  unfold fn fn_part1 fn_part2
  pointwise
  intro h
  refine within_of_abs _ _ (le_trans ?_ big_bits.le)
  exact of_ofBool _ h

theorem bias_in (h : (fn x n g w ws bb).2.2.2.2.2 = fun _ => 1#1) (o : Fin 80) : Within (bb (ix1 o)) (2 ^ 30) := by
  have h := congrFun h (ix1 o)
  revert h
  unfold fn fn_part1 fn_part2
  pointwise
  intro h
  refine within_of_abs _ _ (le_trans ?_ big_bits.le)
  exact of_ofBool _ h

end Cert.Pre_in_range
-- ==== Proof.lean ====
module

public import proofs.«01_k».proof.Defs
public import proofs.«01_k».proof.Proof.Gen.Kernel
public import proofs.«01_k».proof.Proof.Gen.Kernel.Skeleton
public import proofs.«01_k».proof.Proof.Gen.Kernel.Launch
public import proofs.«01_k».proof.Proof.Gen.Kernel.Points
public import proofs.«01_k».proof.Proof.Gen.Kernel.Frame
public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Points
public import proofs.«01_k».proof.Proof.Gen.KernelIdeal.Frame
public import proofs.«01_k».proof.Proof.Gen.ReferenceIdeal
public import proofs.«01_k».proof.Proof.Gen.ReferenceIdeal.Skeleton
public import proofs.«01_k».proof.Proof.Gen.ReferenceIdeal.Launch
public import proofs.«01_k».proof.Proof.Gen.ReferenceIdeal.Points
public import proofs.«01_k».proof.Proof.Gen.ReferenceIdeal.Frame
public import proofs.«01_k».proof.Proof.Gen.Pre_in_range
public import proofs.«01_k».proof.Proof.Gen.KernelIdeal.Value
public import proofs.«01_k».proof.Proof.Gen.Words.Value
public import proofs.«01_k».proof.Proof.Gen.Words.Frame
public import proofs.«01_k».proof.Proof.Gen.WordsReference.Run
public import proofs.«01_k».proof.Proof.WordsEqual
public import proofs.«01_k».proof.Proof.Arrays
public import proofs.«01_k».proof.Proof.RefValue
public import proofs.«01_k».proof.Proof.PreRange
public import Idealize.ShloMosaic.Adequacy
public import Idealize.ShloMosaic.Init

@[expose] public section

noncomputable section

namespace Cert.Proof

open Idealize.ShloMosaic Idealize.SL.Sem Cert.Kernel

/-- The argument arrays of memory `m` satisfy the precondition, so their entries are tame. -/
theorem tame (m : (ℓ : Loc Cert.KernelIdeal.nD Cert.KernelIdeal.τ Cert.KernelIdeal.sig) → Buf (Elt Ideal) ℓ)
    (h : Pre_KernelIdeal_in_range (hPre_in_range := Cert.Pre_in_range.Gen.facts) m) (c : Dev Cert.KernelIdeal.nD) :
    (Cert.KernelIdeal.Arrays.args m c).Tame := by
  obtain ⟨h1, h2, h3, h4, h5, h6⟩ := h c
  exact ⟨Cert.Pre_in_range.scale_in _ _ _ _ _ _ h1, Cert.Pre_in_range.index_in _ _ _ _ _ _ h2,
    Cert.Pre_in_range.code_in _ _ _ _ _ _ h3, Cert.Pre_in_range.weight_in _ _ _ _ _ _ h4,
    Cert.Pre_in_range.wscale_in _ _ _ _ _ _ h5, Cert.Pre_in_range.bias_in _ _ _ _ _ _ h6⟩

/-- On tame arguments the kernel and the reference end with equal results. -/
theorem equal : algebraic_KernelIdeal_ReferenceIdeal_pre_in_range (hKernelIdeal := Cert.KernelIdeal.Gen.facts)
    (hReferenceIdeal := Cert.ReferenceIdeal.Gen.facts) (hPre_in_range := Cert.Pre_in_range.Gen.facts) := by
  intro m g m' g' hpre hargs
  have hT := tame m hpre
  have hF : ∀ c, Cert.KernelIdeal.Arrays.Fits (Cert.KernelIdeal.Arrays.args m c) := fun c => ⟨(hT c).scale, (hT c).index⟩
  have hA : ∀ c, Cert.ReferenceIdeal.Arrays.args m' c = Cert.KernelIdeal.Arrays.args m c := fun c => by
    obtain ⟨h0, h1, h2, h3, h4, h5⟩ := hargs c
    unfold Cert.ReferenceIdeal.Arrays.args Cert.KernelIdeal.Arrays.args
    rw [h0, h1, h2, h3, h4, h5]
  have hn : ∀ (c : Dev Cert.KernelIdeal.nD) b t k, ((Cert.ReferenceIdeal.Arrays.args m' c).nbr b t k).slt 0#32 = true
      ∨ ((Cert.ReferenceIdeal.Arrays.args m' c).nbr b t k).toNat < 2048 := fun c => by
    rw [hA c]
    exact (hT c).index
  have e0 : ∀ c : Dev Cert.KernelIdeal.nD,
      ((Cert.ReferenceIdeal.Gen.dats m' 0 c).arrAt 6 Cert.ReferenceIdeal.cfg0.N : Vec Ideal Cert.ReferenceIdeal.S24x80x2048 .fp8e4m3)
        = ((Cert.KernelIdeal.Gen.dats m 0 c).arrAt 6 Cert.KernelIdeal.cfg0.N : Vec Ideal Cert.KernelIdeal.S24x80x2048 .fp8e4m3) := fun c => by
    funext i
    rw [eq_ix3 i]
    refine (Cert.ReferenceIdeal.Arrays.result0 m' c (hn c) _ _ _).trans ?_
    refine Eq.trans ?_ (Cert.KernelIdeal.Arrays.result0 m c (hF c) _ _ _).symm
    rw [hA c]
    exact (Cert.Math.outQ_eq (hT c) _ _ _).symm
  have e1 : ∀ c : Dev Cert.KernelIdeal.nD,
      ((Cert.ReferenceIdeal.Gen.dats m' 0 c).arrAt 7 Cert.ReferenceIdeal.cfg0.N : Vec Ideal Cert.ReferenceIdeal.S24x2048 .f32)
        = ((Cert.KernelIdeal.Gen.dats m 0 c).arrAt 7 Cert.KernelIdeal.cfg0.N : Vec Ideal Cert.KernelIdeal.S24x2048 .f32) := fun c => by
    funext i
    rw [eq_ix2 i]
    refine (Cert.ReferenceIdeal.Arrays.result1 m' c (hn c) _ _).trans ?_
    refine Eq.trans ?_ (Cert.KernelIdeal.Arrays.result1 m c (hF c) _ _).symm
    rw [hA c]
    exact (Cert.Math.outS_eq (hT c) _ _).symm
  refine ⟨fun c => (Cert.KernelIdeal.Gen.dats m 0 c).arrAt 6 Cert.KernelIdeal.cfg0.N,
    fun c => (Cert.KernelIdeal.Gen.dats m 0 c).arrAt 7 Cert.KernelIdeal.cfg0.N, Cert.KernelIdeal.Value.run_blocks m g, ?_⟩
  exact (θ_run Cert.ReferenceIdeal.defs _ _).mono
    (fun r h c => ⟨(h c).1.trans (e0 c), (h c).2.1.trans (e1 c), (h c).2.2⟩) (Cert.ReferenceIdeal.Value.run_blocks m' g')

/-- The words call and its reference end with the same words. -/
theorem equal_words : Cert.bitexact_Words_WordsReference (hWords := Cert.Words.Gen.facts) (hWordsReference := Cert.WordsReference.Gen.facts) := by
  intro m g m' g' _ hm
  refine ⟨fun c => (Cert.Words.Gen.dats m 0 c).arrAt 1 Cert.Words.cfg0.N, Cert.Words.Value.run_blocks m g, ?_⟩
  exact (θ_run Cert.WordsReference.defs _ _).mono
    (fun r h c => ⟨(h c).1.trans ((Cert.WordsReference.Equal.joined_eq _).trans
        ((congrArg Cert.Words.Equal.packed (hm c)).trans (Cert.Words.Equal.final m c).symm)), (h c).2⟩)
    (Cert.WordsReference.Equal.run m' g')

theorem claim : Cert.Claim := ⟨Cert.Kernel.Gen.facts, Cert.KernelIdeal.Gen.facts, Cert.ReferenceIdeal.Gen.facts,
  Cert.Words.Gen.facts, Cert.WordsReference.Gen.facts, Cert.Pre_in_range.Gen.facts,
  fun m ρ _ => Cert.Kernel.Gen.frame m ρ, fun m ρ _ => Cert.KernelIdeal.Gen.frame m ρ, fun m ρ _ => Cert.KernelIdeal.Gen.frame m ρ,
  fun m ρ _ => Cert.ReferenceIdeal.Gen.frame m ρ, fun m ρ _ => Cert.ReferenceIdeal.Gen.frame m ρ,
  fun m ρ _ => Cert.Words.Gen.frame m ρ, fun m ρ _ => Cert.WordsReference.Equal.frame m ρ, trivial, equal, equal_words⟩

end Cert.Proof

end
